-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v82)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v82) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v70) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v279) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v321) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x1024x13 : Shape := ⟨3, ![4, 1024, 13]⟩
abbrev S8192x13 : Shape := ⟨2, ![8192, 13]⟩
abbrev S13x512 : Shape := ⟨2, ![13, 512]⟩
abbrev S1024x512 : Shape := ⟨2, ![1024, 512]⟩
abbrev S2x512x1536 : Shape := ⟨3, ![2, 512, 1536]⟩
abbrev S2x512x512 : Shape := ⟨3, ![2, 512, 512]⟩
abbrev S2x512 : Shape := ⟨2, ![2, 512]⟩
abbrev S2x512x2048 : Shape := ⟨3, ![2, 512, 2048]⟩
abbrev S2x2048x512 : Shape := ⟨3, ![2, 2048, 512]⟩
abbrev S512 : Shape := ⟨1, ![512]⟩
abbrev S512x13 : Shape := ⟨2, ![512, 13]⟩
abbrev S2x512x1024 : Shape := ⟨3, ![2, 512, 1024]⟩
abbrev S_ : Shape := ⟨0, ![]⟩

class Facts : Prop where
  slices_S2x512x1536_S2x512x1024_0_0_0 : S2x512x1536.Slices ![0, 0, 0] S2x512x1024
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S4x1024x13 .f32) (main_arg1 : FVec F S8192x13 .f32) (main_arg2 : FVec F S13x512 .f32) (main_arg3 : FVec F S1024x512 .f32) (main_arg4 : FVec F S2x512x1536 .f32) (main_arg5 : FVec F S2x512x512 .f32) (main_arg6 : FVec F S2x512 .f32) (main_arg7 : FVec F S2x512 .f32) (main_arg8 : FVec F S2x512x2048 .f32) (main_arg9 : FVec F S2x2048x512 .f32) (main_arg10 : FVec F S512 .f32) (main_arg11 : FVec F S512x13 .f32) : IVec S_ 1 :=
  let main_v0 : FVec F S2x512x1024 .f32 := (extractStridedSlice S2x512x1024 ![0, 0, 0] · slices_S2x512x1536_S2x512x1024_0_0_0) main_arg4
  let main_v1 : FVec F S2x512x1024 .f32 := Host.absf main_v0
  let main_cst : FVec F S_ .f32 := constant S_ .f32 0x7F800000#32
  let main_v2 : FVec F S2x512x1024 .f32 := broadcastInDim S2x512x1024 ![] bcast_S_S2x512x1024 main_cst
  let main_v3 : IVec S2x512x1024 1 := cmpf .olt main_v1 main_v2
  let main_c : IVec S_ 1 := constantI S_ 1 1#1
  let main_v4 : IVec S_ 1 := (fun x v => Host.reduce IntOp.andi x v reducesTo_S2x512x1024_S_d0_1_2 h_S_) main_v3 main_c
  let main_v5 : FVec F S2x512 .f32 := Host.absf main_arg6
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_c_1 : IVec S_ 1 := constantI S_ 1 1#1
  let main_v8 : IVec S_ 1 := (fun x v => Host.reduce IntOp.andi x v reducesTo_S2x512_S_d0_1 h_S_) main_v7 main_c_1
  let main_v9 : IVec S_ 1 := andi main_v4 main_v8
  main_v9
-- ==== Kernel.lean ====
abbrev S4x1024x13 : Shape := ⟨3, ![4, 1024, 13]⟩
abbrev S8192x13 : Shape := ⟨2, ![8192, 13]⟩
abbrev S13x512 : Shape := ⟨2, ![13, 512]⟩
abbrev S1024x512 : Shape := ⟨2, ![1024, 512]⟩
abbrev S2x512x1536 : Shape := ⟨3, ![2, 512, 1536]⟩
abbrev S2x512x512 : Shape := ⟨3, ![2, 512, 512]⟩
abbrev S2x512 : Shape := ⟨2, ![2, 512]⟩
abbrev S2x512x2048 : Shape := ⟨3, ![2, 512, 2048]⟩
abbrev S2x2048x512 : Shape := ⟨3, ![2, 2048, 512]⟩
abbrev S512 : Shape := ⟨1, ![512]⟩
abbrev S512x13 : Shape := ⟨2, ![512, 13]⟩
abbrev S_ : Shape := ⟨0, ![]⟩
abbrev S4x1024 : Shape := ⟨2, ![4, 1024]⟩
abbrev S4x1024x1 : Shape := ⟨3, ![4, 1024, 1]⟩
abbrev S8192 : Shape := ⟨1, ![8192]⟩
abbrev S8192x1 : Shape := ⟨2, ![8192, 1]⟩
abbrev S4x1024x8192 : Shape := ⟨3, ![4, 1024, 8192]⟩
abbrev S1 : Shape := ⟨1, ![1]⟩
abbrev S1x1x1 : Shape := ⟨3, ![1, 1, 1]⟩
abbrev S4x1023x13 : Shape := ⟨3, ![4, 1023, 13]⟩
abbrev S4x1023x512 : Shape := ⟨3, ![4, 1023, 512]⟩
abbrev S4096 : Shape := ⟨1, ![4096]⟩
abbrev S4096x1 : Shape := ⟨2, ![4096, 1]⟩
abbrev S1x4096 : Shape := ⟨2, ![1, 4096]⟩
abbrev S4095 : Shape := ⟨1, ![4095]⟩
abbrev S4x1024x512 : Shape := ⟨3, ![4, 1024, 512]⟩
abbrev S1x512 : Shape := ⟨2, ![1, 512]⟩
abbrev S1x1024x512 : Shape := ⟨3, ![1, 1024, 512]⟩
abbrev S1x1024x13 : Shape := ⟨3, ![1, 1024, 13]⟩
abbrev S512x512 : Shape := ⟨2, ![512, 512]⟩
abbrev S1024 : Shape := ⟨1, ![1024]⟩
abbrev S1024x1 : Shape := ⟨2, ![1024, 1]⟩
abbrev S1x512x1536 : Shape := ⟨3, ![1, 512, 1536]⟩
abbrev S512x1536 : Shape := ⟨2, ![512, 1536]⟩
abbrev S1024x1536 : Shape := ⟨2, ![1024, 1536]⟩
abbrev S512x64 : Shape := ⟨2, ![512, 64]⟩
abbrev S512x1 : Shape := ⟨2, ![512, 1]⟩
abbrev S1x512x512 : Shape := ⟨3, ![1, 512, 512]⟩
abbrev S1024x64 : Shape := ⟨2, ![1024, 64]⟩
abbrev S512x1024 : Shape := ⟨2, ![512, 1024]⟩
abbrev S1x512x2048 : Shape := ⟨3, ![1, 512, 2048]⟩
abbrev S512x2048 : Shape := ⟨2, ![512, 2048]⟩
abbrev S1024x2048 : Shape := ⟨2, ![1024, 2048]⟩
abbrev S1x2048x512 : Shape := ⟨3, ![1, 2048, 512]⟩
abbrev S2048x512 : Shape := ⟨2, ![2048, 512]⟩
abbrev S1024x13 : Shape := ⟨2, ![1024, 13]⟩
abbrev S4096x13 : Shape := ⟨2, ![4096, 13]⟩
abbrev S4095x13 : Shape := ⟨2, ![4095, 13]⟩
abbrev S1x13 : Shape := ⟨2, ![1, 13]⟩
abbrev S8x1x1 : Shape := ⟨3, ![8, 1, 1]⟩
abbrev S512x8192 : Shape := ⟨2, ![512, 8192]⟩
abbrev S1x512x1 : Shape := ⟨3, ![1, 512, 1]⟩

abbrev nBuf : Space → Nat
  | .hbm => 241
  | .vmem => 20
  | .smem => 0
  | _ => 0

abbrev hbmTy0_0 (i : Nat) : BufTy := match i % 128 with
  | 0 => ⟨S4x1024x13, .f32⟩
  | 1 => ⟨S8192x13, .f32⟩
  | 2 => ⟨S13x512, .f32⟩
  | 3 => ⟨S1024x512, .f32⟩
  | 4 => ⟨S2x512x1536, .f32⟩
  | 5 => ⟨S2x512x512, .f32⟩
  | 6 => ⟨S2x512, .f32⟩
  | 7 => ⟨S2x512, .f32⟩
  | 8 => ⟨S2x512x2048, .f32⟩
  | 9 => ⟨S2x2048x512, .f32⟩
  | 10 => ⟨S512, .f32⟩
  | 11 => ⟨S512x13, .f32⟩
  | 12 => ⟨S4x1024x13, .f32⟩
  | 13 => ⟨S_, .f32⟩
  | 14 => ⟨S4x1024, .f32⟩
  | 15 => ⟨S4x1024x1, .f32⟩
  | 16 => ⟨S4x1024x1, .f32⟩
  | 17 => ⟨S_, .f32⟩
  | 18 => ⟨S4x1024x1, .f32⟩
  | 19 => ⟨S4x1024x1, .f32⟩
  | 20 => ⟨S4x1024x13, .f32⟩
  | 21 => ⟨S4x1024x13, .f32⟩
  | 22 => ⟨S8192x13, .f32⟩
  | 23 => ⟨S_, .f32⟩
  | 24 => ⟨S8192, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x13, .f32⟩
  | 31 => ⟨S8192x13, .f32⟩
  | 32 => ⟨S4x1024x8192, .f32⟩
  | 33 => ⟨S4x1024x8192, .i32⟩
  | 34 => ⟨S_, .f32⟩
  | 35 => ⟨S_, .i32⟩
  | 36 => ⟨S4x1024, .f32⟩
  | 37 => ⟨S4x1024, .i32⟩
  | 38 => ⟨S_, .i32⟩
  | 39 => ⟨S4x1024, .i32⟩
  | 40 => ⟨S4x1024, .i1⟩
  | 41 => ⟨S_, .i32⟩
  | 42 => ⟨S4x1024, .i32⟩
  | 43 => ⟨S4x1024, .i32⟩
  | 44 => ⟨S4x1024, .i32⟩
  | 45 => ⟨S4x1024x1, .i32⟩
  | 46 => ⟨S1, .i32⟩
  | 47 => ⟨S_, .i32⟩
  | 48 => ⟨S4x1024x1, .i32⟩
  | 49 => ⟨S4x1024x1, .i1⟩
  | 50 => ⟨S1x1x1, .i32⟩
  | 51 => ⟨S4x1024x1, .i32⟩
  | 52 => ⟨S4x1024x1, .i1⟩
  | 53 => ⟨S4x1024x1, .i1⟩
  | 54 => ⟨S_, .i1⟩
  | 55 => ⟨S4x1024, .i1⟩
  | 56 => ⟨S4x1024x13, .f32⟩
  | 57 => ⟨S4x1024x13, .i1⟩
  | 58 => ⟨S_, .f32⟩
  | 59 => ⟨S4x1024x13, .f32⟩
  | 60 => ⟨S4x1024x13, .f32⟩
  | 61 => ⟨S4x1024x13, .f32⟩
  | 62 => ⟨S4x1024x13, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4x1024x13, .f32⟩
  | 70 => ⟨S4x1024x13, .f32⟩
  | 71 => ⟨S_, .i32⟩
  | 72 => ⟨S4x1024, .i32⟩
  | 73 => ⟨S4x1024, .i1⟩
  | 74 => ⟨S_, .i32⟩
  | 75 => ⟨S4x1024, .i32⟩
  | 76 => ⟨S4x1024, .i32⟩
  | 77 => ⟨S4x1024, .i32⟩
  | 78 => ⟨S4x1024x1, .i32⟩
  | 79 => ⟨S1, .i32⟩
  | 80 => ⟨S_, .i32⟩
  | 81 => ⟨S4x1024x1, .i32⟩
  | 82 => ⟨S4x1024x1, .i1⟩
  | 83 => ⟨S1x1x1, .i32⟩
  | 84 => ⟨S4x1024x1, .i32⟩
  | 85 => ⟨S4x1024x1, .i1⟩
  | 86 => ⟨S4x1024x1, .i1⟩
  | 87 => ⟨S_, .i1⟩
  | 88 => ⟨S4x1024, .i1⟩
  | 89 => ⟨S4x1024x13, .f32⟩
  | 90 => ⟨S4x1024x13, .i1⟩
  | 91 => ⟨S_, .f32⟩
  | 92 => ⟨S4x1024x13, .f32⟩
  | 93 => ⟨S4x1024x13, .f32⟩
  | 94 => ⟨S4x1023x13, .f32⟩
  | 95 => ⟨S4x1023x512, .f32⟩
  | 96 => ⟨S4096, .i32⟩
  | 97 => ⟨S4096x1, .i32⟩
  | 98 => ⟨S1x4096, .i32⟩
  | 99 => ⟨S1x4096, .i32⟩
  | 100 => ⟨S1x4096, .i32⟩
  | 101 => ⟨S4096, .i32⟩
  | 102 => ⟨S4096, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096, .i32⟩
  | 114 => ⟨S_, .i1⟩
  | 115 => ⟨S4096, .i1⟩
  | 116 => ⟨S4095, .i32⟩
  | 117 => ⟨S4095, .i32⟩
  | 118 => ⟨S4095, .i1⟩
  | 119 => ⟨S_, .i1⟩
  | 120 => ⟨S4095, .i1⟩
  | 121 => ⟨S_, .i32⟩
  | 122 => ⟨S1, .i32⟩
  | 123 => ⟨S4096, .i1⟩
  | 124 => ⟨S4096, .i32⟩
  | 125 => ⟨S_, .i32⟩
  | 126 => ⟨S_, .i32⟩
  | 127 => ⟨S4096, .i32⟩
  | _ => ⟨S4x1024x13, .f32⟩

abbrev hbmTy0_1 (i : Nat) : BufTy := match i % 128 with
  | 0 => ⟨S_, .i32⟩
  | 1 => ⟨S8192, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S_, .i32⟩
  | 11 => ⟨S4096, .i32⟩
  | 12 => ⟨S8192, .i32⟩
  | 13 => ⟨S_, .i32⟩
  | 14 => ⟨S_, .i32⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i1⟩
  | 48 => ⟨S_, .i32⟩
  | 49 => ⟨S_, .i1⟩
  | 50 => ⟨S8192, .i1⟩
  | 51 => ⟨S8192, .i1⟩
  | 52 => ⟨S8192, .i1⟩
  | 53 => ⟨S8192, .i32⟩
  | 54 => ⟨S8192, .i32⟩
  | 55 => ⟨S8192, .i32⟩
  | 56 => ⟨S4096, .i32⟩
  | 57 => ⟨S_, .i32⟩
  | 58 => ⟨S_, .i32⟩
  | 59 => ⟨S1, .i32⟩
  | 60 => ⟨S8192, .i32⟩
  | 61 => ⟨S8192, .i32⟩
  | 62 => ⟨S8192, .i1⟩
  | 63 => ⟨S_, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192, .i32⟩
  | 76 => ⟨S8192, .i32⟩
  | 77 => ⟨S4096, .i32⟩
  | 78 => ⟨S_, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S_, .i32⟩
  | 86 => ⟨S8192, .i32⟩
  | 87 => ⟨S8192, .i1⟩
  | 88 => ⟨S8192, .i32⟩
  | 89 => ⟨S_, .i32⟩
  | 90 => ⟨S_, .i32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S_, .f32⟩
  | 98 => ⟨S4x1024x512, .f32⟩
  | 99 => ⟨S1x512, .f32⟩
  | 100 => ⟨S4x1024x13, .f32⟩
  | 101 => ⟨S4096x13, .f32⟩
  | 102 => ⟨S4096x13, .f32⟩
  | 103 => ⟨S4095x13, .f32⟩
  | 104 => ⟨S1x13, .f32⟩
  | 105 => ⟨S4096x13, .f32⟩
  | 106 => ⟨S8x1x1, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S4x1024x13, .f32⟩

abbrev hbmTy (i : Nat) : BufTy := match i / 128 with
  | 0 => hbmTy0_0 i
  | 1 => hbmTy0_1 i
  | _ => ⟨S4x1024x13, .f32⟩

abbrev bufTy : (tb : Table) → Fin (tcTables nBuf tb) → BufTy
  | .hbm, ⟨i, _⟩ => hbmTy i
  | .local _ .vmem, ⟨0, _⟩ => ⟨S1x1024x512, .f32⟩
  | .local _ .vmem, ⟨1, _⟩ => ⟨S1x1024x512, .f32⟩
  | .local _ .vmem, ⟨2, _⟩ => ⟨S1024x512, .f32⟩
  | .local _ .vmem, ⟨3, _⟩ => ⟨S2x512x1536, .f32⟩
  | .local _ .vmem, ⟨4, _⟩ => ⟨S2x512x512, .f32⟩
  | .local _ .vmem, ⟨5, _⟩ => ⟨S2x512, .f32⟩
  | .local _ .vmem, ⟨6, _⟩ => ⟨S2x512, .f32⟩
  | .local _ .vmem, ⟨7, _⟩ => ⟨S2x512x2048, .f32⟩
  | .local _ .vmem, ⟨8, _⟩ => ⟨S2x2048x512, .f32⟩
  | .local _ .vmem, ⟨9, _⟩ => ⟨S1x512, .f32⟩
  | .local _ .vmem, ⟨10, _⟩ => ⟨S512x13, .f32⟩
  | .local _ .vmem, ⟨11, _⟩ => ⟨S1x1024x13, .f32⟩
  | .local _ .vmem, ⟨12, _⟩ => ⟨S1x1024x13, .f32⟩
  | .local _ .vmem, ⟨13, _⟩ => ⟨S512x13, .f32⟩
  | .local _ .vmem, ⟨14, _⟩ => ⟨S512x13, .f32⟩
  | .local _ .vmem, ⟨15, _⟩ => ⟨S512x13, .f32⟩
  | .local _ .vmem, ⟨16, _⟩ => ⟨S512x13, .f32⟩
  | .local _ .vmem, ⟨17, _⟩ => ⟨S8192x13, .f32⟩
  | .local _ .vmem, ⟨18, _⟩ => ⟨S1x1x1, .f32⟩
  | .local _ .vmem, ⟨19, _⟩ => ⟨S1x1x1, .f32⟩
  | _, _ => ⟨S4x1024x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v17 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_3 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_cst_5 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_call0_v0 : Ref sig .tc := ⟨.hbm, 100, rfl⟩
abbrev main_call3_call0_v1 : Ref sig .tc := ⟨.hbm, 101, rfl⟩
abbrev main_call3_call0_v2 : Ref sig .tc := ⟨.hbm, 102, rfl⟩
abbrev main_call3_call0_v3_0 : Ref sig .tc := ⟨.hbm, 103, rfl⟩
abbrev main_v30_2 : Ref sig .tc := ⟨.hbm, 104, rfl⟩
abbrev main_call3_c : Ref sig .tc := ⟨.hbm, 105, rfl⟩
abbrev main_call3_v4 : Ref sig .tc := ⟨.hbm, 106, rfl⟩
abbrev main_call3_v5 : Ref sig .tc := ⟨.hbm, 107, rfl⟩
abbrev main_call3_c_0 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_v30_0 : Ref sig .tc := ⟨.hbm, 113, rfl⟩
abbrev main_call3_c_1 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_c_2 : Ref sig .tc := ⟨.hbm, 119, rfl⟩
abbrev main_call3_v15 : Ref sig .tc := ⟨.hbm, 120, rfl⟩
abbrev main_call3_c_3 : Ref sig .tc := ⟨.hbm, 121, rfl⟩
abbrev main_call3_v16 : Ref sig .tc := ⟨.hbm, 122, rfl⟩
abbrev main_v30_1 : Ref sig .tc := ⟨.hbm, 123, rfl⟩
abbrev main_call4_v0 : Ref sig .tc := ⟨.hbm, 124, rfl⟩
abbrev main_call4_call0_c : Ref sig .tc := ⟨.hbm, 125, rfl⟩
abbrev main_call4_call0_v0 : Ref sig .tc := ⟨.hbm, 126, rfl⟩
abbrev main_v31 : Ref sig .tc := ⟨.hbm, 127, rfl⟩
abbrev main_c : Ref sig .tc := ⟨.hbm, 128, rfl⟩
abbrev main_v32 : Ref sig .tc := ⟨.hbm, 129, rfl⟩
abbrev main_c_6 : Ref sig .tc := ⟨.hbm, 130, rfl⟩
abbrev main_v33 : Ref sig .tc := ⟨.hbm, 131, rfl⟩
abbrev main_v34 : Ref sig .tc := ⟨.hbm, 132, rfl⟩
abbrev main_c_7 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_c_8 : Ref sig .tc := ⟨.hbm, 138, rfl⟩
abbrev main_v39 : Ref sig .tc := ⟨.hbm, 139, rfl⟩
abbrev main_v40 : Ref sig .tc := ⟨.hbm, 140, rfl⟩
abbrev main_call5_call0_c : Ref sig .tc := ⟨.hbm, 141, rfl⟩
abbrev main_call5_call0_v0 : Ref sig .tc := ⟨.hbm, 142, rfl⟩
abbrev main_v41 : Ref sig .tc := ⟨.hbm, 143, rfl⟩
abbrev main_c_9 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_c : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_0 : Ref sig .tc := ⟨.hbm, 158, rfl⟩
abbrev main_call6_v12 : Ref sig .tc := ⟨.hbm, 159, rfl⟩
abbrev main_call6_v13 : Ref sig .tc := ⟨.hbm, 160, rfl⟩
abbrev main_v42 : Ref sig .tc := ⟨.hbm, 161, rfl⟩
abbrev main_c_10 : Ref sig .tc := ⟨.hbm, 162, rfl⟩
abbrev main_call7_v0 : Ref sig .tc := ⟨.hbm, 163, rfl⟩
abbrev main_call7_c : Ref sig .tc := ⟨.hbm, 164, rfl⟩
abbrev main_call7_v1 : Ref sig .tc := ⟨.hbm, 165, rfl⟩
abbrev main_call7_c_0 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_call7_c_1 : Ref sig .tc := ⟨.hbm, 170, rfl⟩
abbrev main_call7_v5 : Ref sig .tc := ⟨.hbm, 171, rfl⟩
abbrev main_call7_v6 : Ref sig .tc := ⟨.hbm, 172, rfl⟩
abbrev main_call7_c_2 : Ref sig .tc := ⟨.hbm, 173, rfl⟩
abbrev main_call7_v7 : Ref sig .tc := ⟨.hbm, 174, rfl⟩
abbrev main_call7_v8 : Ref sig .tc := ⟨.hbm, 175, rfl⟩
abbrev main_call7_c_3 : Ref sig .tc := ⟨.hbm, 176, rfl⟩
abbrev main_call7_v9 : Ref sig .tc := ⟨.hbm, 177, rfl⟩
abbrev main_call7_v10 : Ref sig .tc := ⟨.hbm, 178, rfl⟩
abbrev main_call7_v11 : Ref sig .tc := ⟨.hbm, 179, rfl⟩
abbrev main_call7_v12 : Ref sig .tc := ⟨.hbm, 180, rfl⟩
abbrev main_call7_v13 : Ref sig .tc := ⟨.hbm, 181, rfl⟩
abbrev main_call7_v14 : Ref sig .tc := ⟨.hbm, 182, rfl⟩
abbrev main_v43 : Ref sig .tc := ⟨.hbm, 183, rfl⟩
abbrev main_v44 : Ref sig .tc := ⟨.hbm, 184, rfl⟩
abbrev main_c_11 : Ref sig .tc := ⟨.hbm, 185, rfl⟩
abbrev main_v45 : Ref sig .tc := ⟨.hbm, 186, rfl⟩
abbrev main_v46 : Ref sig .tc := ⟨.hbm, 187, rfl⟩
abbrev main_v47 : Ref sig .tc := ⟨.hbm, 188, rfl⟩
abbrev main_v48 : Ref sig .tc := ⟨.hbm, 189, rfl⟩
abbrev main_v49 : Ref sig .tc := ⟨.hbm, 190, rfl⟩
abbrev main_c_12 : Ref sig .tc := ⟨.hbm, 191, rfl⟩
abbrev main_call8_v0 : Ref sig .tc := ⟨.hbm, 192, rfl⟩
abbrev main_call8_v1 : Ref sig .tc := ⟨.hbm, 193, rfl⟩
abbrev main_v50 : Ref sig .tc := ⟨.hbm, 194, rfl⟩
abbrev main_c_13 : Ref sig .tc := ⟨.hbm, 195, rfl⟩
abbrev main_v51 : Ref sig .tc := ⟨.hbm, 196, rfl⟩
abbrev main_v52 : Ref sig .tc := ⟨.hbm, 197, rfl⟩
abbrev main_c_14 : Ref sig .tc := ⟨.hbm, 198, rfl⟩
abbrev main_v53 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_v58 : Ref sig .tc := ⟨.hbm, 204, rfl⟩
abbrev main_v59 : Ref sig .tc := ⟨.hbm, 205, rfl⟩
abbrev main_c_15 : Ref sig .tc := ⟨.hbm, 206, rfl⟩
abbrev main_v60 : Ref sig .tc := ⟨.hbm, 207, rfl⟩
abbrev main_v61 : Ref sig .tc := ⟨.hbm, 208, rfl⟩
abbrev main_v62 : Ref sig .tc := ⟨.hbm, 209, rfl⟩
abbrev main_c_16 : Ref sig .tc := ⟨.hbm, 210, rfl⟩
abbrev main_call9_v0 : Ref sig .tc := ⟨.hbm, 211, rfl⟩
abbrev main_v63 : Ref sig .tc := ⟨.hbm, 212, rfl⟩
abbrev main_c_17 : Ref sig .tc := ⟨.hbm, 213, rfl⟩
abbrev main_v64 : Ref sig .tc := ⟨.hbm, 214, rfl⟩
abbrev main_v65 : Ref sig .tc := ⟨.hbm, 215, rfl⟩
abbrev main_v66 : Ref sig .tc := ⟨.hbm, 216, rfl⟩
abbrev main_c_18 : Ref sig .tc := ⟨.hbm, 217, rfl⟩
abbrev main_v67 : Ref sig .tc := ⟨.hbm, 218, rfl⟩
abbrev main_v68 : Ref sig .tc := ⟨.hbm, 219, rfl⟩
abbrev main_cst_19 : Ref sig .tc := ⟨.hbm, 220, rfl⟩
abbrev main_v69 : Ref sig .tc := ⟨.hbm, 221, rfl⟩
abbrev main_cst_20 : Ref sig .tc := ⟨.hbm, 222, rfl⟩
abbrev main_v70 : Ref sig .tc := ⟨.hbm, 223, rfl⟩
abbrev main_c_21 : Ref sig .tc := ⟨.hbm, 224, rfl⟩
abbrev main_call10_v0 : Ref sig .tc := ⟨.hbm, 225, rfl⟩
abbrev main_v71 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_v78 : Ref sig .tc := ⟨.hbm, 233, rfl⟩
abbrev main_v79 : Ref sig .tc := ⟨.hbm, 234, rfl⟩
abbrev main_cst_22 : Ref sig .tc := ⟨.hbm, 235, rfl⟩
abbrev main_v80 : Ref sig .tc := ⟨.hbm, 236, rfl⟩
abbrev main_cst_23 : Ref sig .tc := ⟨.hbm, 237, rfl⟩
abbrev main_v81 : Ref sig .tc := ⟨.hbm, 238, rfl⟩
abbrev main_cst_24 : Ref sig .tc := ⟨.hbm, 239, rfl⟩
abbrev main_v82 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x13 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x13 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x13 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x13 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S4x1024x13 : Shape := ⟨3, ![4, 1024, 13]⟩
abbrev S8192x13 : Shape := ⟨2, ![8192, 13]⟩
abbrev S13x512 : Shape := ⟨2, ![13, 512]⟩
abbrev S1024x512 : Shape := ⟨2, ![1024, 512]⟩
abbrev S2x512x1536 : Shape := ⟨3, ![2, 512, 1536]⟩
abbrev S2x512x512 : Shape := ⟨3, ![2, 512, 512]⟩
abbrev S2x512 : Shape := ⟨2, ![2, 512]⟩
abbrev S2x512x2048 : Shape := ⟨3, ![2, 512, 2048]⟩
abbrev S2x2048x512 : Shape := ⟨3, ![2, 2048, 512]⟩
abbrev S512 : Shape := ⟨1, ![512]⟩
abbrev S512x13 : Shape := ⟨2, ![512, 13]⟩
abbrev S_ : Shape := ⟨0, ![]⟩
abbrev S4x1024 : Shape := ⟨2, ![4, 1024]⟩
abbrev S4x1024x1 : Shape := ⟨3, ![4, 1024, 1]⟩
abbrev S8192 : Shape := ⟨1, ![8192]⟩
abbrev S8192x1 : Shape := ⟨2, ![8192, 1]⟩
abbrev S4x1024x8192 : Shape := ⟨3, ![4, 1024, 8192]⟩
abbrev S1 : Shape := ⟨1, ![1]⟩
abbrev S1x1x1 : Shape := ⟨3, ![1, 1, 1]⟩
abbrev S4x1023x13 : Shape := ⟨3, ![4, 1023, 13]⟩
abbrev S4x1023x512 : Shape := ⟨3, ![4, 1023, 512]⟩
abbrev S1023x512 : Shape := ⟨2, ![1023, 512]⟩
abbrev S1x1023x512 : Shape := ⟨3, ![1, 1023, 512]⟩
abbrev S1023x1023 : Shape := ⟨2, ![1023, 1023]⟩
abbrev S1x512 : Shape := ⟨2, ![1, 512]⟩
abbrev S4x1023 : Shape := ⟨2, ![4, 1023]⟩
abbrev S4x1023x1 : Shape := ⟨3, ![4, 1023, 1]⟩
abbrev S1x1x512 : Shape := ⟨3, ![1, 1, 512]⟩
abbrev S1x512x1536 : Shape := ⟨3, ![1, 512, 1536]⟩
abbrev S512x1536 : Shape := ⟨2, ![512, 1536]⟩
abbrev S4x1023x1536 : Shape := ⟨3, ![4, 1023, 1536]⟩
abbrev S4x1023x8x64 : Shape := ⟨4, ![4, 1023, 8, 64]⟩
abbrev S4x8x1023x64 : Shape := ⟨4, ![4, 8, 1023, 64]⟩
abbrev S4x8x1023x1023 : Shape := ⟨4, ![4, 8, 1023, 1023]⟩
abbrev S1x1x1023x1023 : Shape := ⟨4, ![1, 1, 1023, 1023]⟩
abbrev S4x8x1023 : Shape := ⟨3, ![4, 8, 1023]⟩
abbrev S4x8x1023x1 : Shape := ⟨4, ![4, 8, 1023, 1]⟩
abbrev S1x512x512 : Shape := ⟨3, ![1, 512, 512]⟩
abbrev S512x512 : Shape := ⟨2, ![512, 512]⟩
abbrev S1x512x2048 : Shape := ⟨3, ![1, 512, 2048]⟩
abbrev S512x2048 : Shape := ⟨2, ![512, 2048]⟩
abbrev S4x1023x2048 : Shape := ⟨3, ![4, 1023, 2048]⟩
abbrev S1x2048x512 : Shape := ⟨3, ![1, 2048, 512]⟩
abbrev S2048x512 : Shape := ⟨2, ![2048, 512]⟩
abbrev S4x1023x8192 : Shape := ⟨3, ![4, 1023, 8192]⟩
abbrev S4x1023x1x1 : Shape := ⟨4, ![4, 1023, 1, 1]⟩
abbrev S1x1x1x1 : Shape := ⟨4, ![1, 1, 1, 1]⟩
abbrev S4096 : Shape := ⟨1, ![4096]⟩
abbrev S4096x1 : Shape := ⟨2, ![4096, 1]⟩
abbrev S1x4096 : Shape := ⟨2, ![1, 4096]⟩
abbrev S4095 : Shape := ⟨1, ![4095]⟩

abbrev nBuf : Space → Nat
  | .hbm => 573
  | .vmem => 0
  | .smem => 0
  | _ => 0

abbrev hbmTy0_0 (i : Nat) : BufTy := match i % 128 with
  | 0 => ⟨S4x1024x13, .f32⟩
  | 1 => ⟨S8192x13, .f32⟩
  | 2 => ⟨S13x512, .f32⟩
  | 3 => ⟨S1024x512, .f32⟩
  | 4 => ⟨S2x512x1536, .f32⟩
  | 5 => ⟨S2x512x512, .f32⟩
  | 6 => ⟨S2x512, .f32⟩
  | 7 => ⟨S2x512, .f32⟩
  | 8 => ⟨S2x512x2048, .f32⟩
  | 9 => ⟨S2x2048x512, .f32⟩
  | 10 => ⟨S512, .f32⟩
  | 11 => ⟨S512x13, .f32⟩
  | 12 => ⟨S4x1024x13, .f32⟩
  | 13 => ⟨S_, .f32⟩
  | 14 => ⟨S4x1024, .f32⟩
  | 15 => ⟨S4x1024x1, .f32⟩
  | 16 => ⟨S4x1024x1, .f32⟩
  | 17 => ⟨S_, .f32⟩
  | 18 => ⟨S4x1024x1, .f32⟩
  | 19 => ⟨S4x1024x1, .f32⟩
  | 20 => ⟨S4x1024x13, .f32⟩
  | 21 => ⟨S4x1024x13, .f32⟩
  | 22 => ⟨S8192x13, .f32⟩
  | 23 => ⟨S_, .f32⟩
  | 24 => ⟨S8192, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x13, .f32⟩
  | 31 => ⟨S8192x13, .f32⟩
  | 32 => ⟨S4x1024x8192, .f32⟩
  | 33 => ⟨S4x1024x8192, .i32⟩
  | 34 => ⟨S_, .f32⟩
  | 35 => ⟨S_, .i32⟩
  | 36 => ⟨S4x1024, .f32⟩
  | 37 => ⟨S4x1024, .i32⟩
  | 38 => ⟨S_, .i32⟩
  | 39 => ⟨S4x1024, .i32⟩
  | 40 => ⟨S4x1024, .i1⟩
  | 41 => ⟨S_, .i32⟩
  | 42 => ⟨S4x1024, .i32⟩
  | 43 => ⟨S4x1024, .i32⟩
  | 44 => ⟨S4x1024, .i32⟩
  | 45 => ⟨S4x1024x1, .i32⟩
  | 46 => ⟨S1, .i32⟩
  | 47 => ⟨S_, .i32⟩
  | 48 => ⟨S4x1024x1, .i32⟩
  | 49 => ⟨S4x1024x1, .i1⟩
  | 50 => ⟨S1x1x1, .i32⟩
  | 51 => ⟨S4x1024x1, .i32⟩
  | 52 => ⟨S4x1024x1, .i1⟩
  | 53 => ⟨S4x1024x1, .i1⟩
  | 54 => ⟨S_, .i1⟩
  | 55 => ⟨S4x1024, .i1⟩
  | 56 => ⟨S4x1024x13, .f32⟩
  | 57 => ⟨S4x1024x13, .i1⟩
  | 58 => ⟨S_, .f32⟩
  | 59 => ⟨S4x1024x13, .f32⟩
  | 60 => ⟨S4x1024x13, .f32⟩
  | 61 => ⟨S4x1024x13, .f32⟩
  | 62 => ⟨S4x1024x13, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4x1024x13, .f32⟩
  | 70 => ⟨S4x1024x13, .f32⟩
  | 71 => ⟨S_, .i32⟩
  | 72 => ⟨S4x1024, .i32⟩
  | 73 => ⟨S4x1024, .i1⟩
  | 74 => ⟨S_, .i32⟩
  | 75 => ⟨S4x1024, .i32⟩
  | 76 => ⟨S4x1024, .i32⟩
  | 77 => ⟨S4x1024, .i32⟩
  | 78 => ⟨S4x1024x1, .i32⟩
  | 79 => ⟨S1, .i32⟩
  | 80 => ⟨S_, .i32⟩
  | 81 => ⟨S4x1024x1, .i32⟩
  | 82 => ⟨S4x1024x1, .i1⟩
  | 83 => ⟨S1x1x1, .i32⟩
  | 84 => ⟨S4x1024x1, .i32⟩
  | 85 => ⟨S4x1024x1, .i1⟩
  | 86 => ⟨S4x1024x1, .i1⟩
  | 87 => ⟨S_, .i1⟩
  | 88 => ⟨S4x1024, .i1⟩
  | 89 => ⟨S4x1024x13, .f32⟩
  | 90 => ⟨S4x1024x13, .i1⟩
  | 91 => ⟨S_, .f32⟩
  | 92 => ⟨S4x1024x13, .f32⟩
  | 93 => ⟨S4x1024x13, .f32⟩
  | 94 => ⟨S4x1023x13, .f32⟩
  | 95 => ⟨S4x1023x512, .f32⟩
  | 96 => ⟨S1023x512, .f32⟩
  | 97 => ⟨S1x1023x512, .f32⟩
  | 98 => ⟨S4x1023x512, .f32⟩
  | 99 => ⟨S4x1023x512, .f32⟩
  | 100 => ⟨S_, .i1⟩
  | 101 => ⟨S1023x1023, .i1⟩
  | 102 => ⟨S1023x1023, .i32⟩
  | 103 => ⟨S_, .i32⟩
  | 104 => ⟨S1023x1023, .i32⟩
  | 105 => ⟨S1023x1023, .i32⟩
  | 106 => ⟨S1023x1023, .i32⟩
  | 107 => ⟨S1023x1023, .i1⟩
  | 108 => ⟨S_, .i1⟩
  | 109 => ⟨S1023x1023, .i1⟩
  | 110 => ⟨S1023x1023, .i1⟩
  | 111 => ⟨S1x512, .f32⟩
  | 112 => ⟨S512, .f32⟩
  | 113 => ⟨S_, .f32⟩
  | 114 => ⟨S4x1023, .f32⟩
  | 115 => ⟨S4x1023x1, .f32⟩
  | 116 => ⟨S_, .f32⟩
  | 117 => ⟨S4x1023x1, .f32⟩
  | 118 => ⟨S4x1023x1, .f32⟩
  | 119 => ⟨S4x1023x512, .f32⟩
  | 120 => ⟨S4x1023x512, .f32⟩
  | 121 => ⟨S4x1023x512, .f32⟩
  | 122 => ⟨S_, .f32⟩
  | 123 => ⟨S4x1023, .f32⟩
  | 124 => ⟨S4x1023x1, .f32⟩
  | 125 => ⟨S_, .f32⟩
  | 126 => ⟨S4x1023x1, .f32⟩
  | 127 => ⟨S4x1023x1, .f32⟩
  | _ => ⟨S4x1024x13, .f32⟩

abbrev hbmTy0_1 (i : Nat) : BufTy := match i % 128 with
  | 0 => ⟨S4x1023x512, .f32⟩
  | 1 => ⟨S4x1023x512, .f32⟩
  | 2 => ⟨S_, .f32⟩
  | 3 => ⟨S4x1023x1, .f32⟩
  | 4 => ⟨S4x1023x1, .f32⟩
  | 5 => ⟨S4x1023x1, .f32⟩
  | 6 => ⟨S4x1023x512, .f32⟩
  | 7 => ⟨S4x1023x512, .f32⟩
  | 8 => ⟨S1x1x512, .f32⟩
  | 9 => ⟨S4x1023x512, .f32⟩
  | 10 => ⟨S4x1023x512, .f32⟩
  | 11 => ⟨S1x512x1536, .f32⟩
  | 12 => ⟨S512x1536, .f32⟩
  | 13 => ⟨S4x1023x1536, .f32⟩
  | 14 => ⟨S4x1023x512, .f32⟩
  | 15 => ⟨S4x1023x512, .f32⟩
  | 16 => ⟨S4x1023x512, .f32⟩
  | 17 => ⟨S4x1023x8x64, .f32⟩
  | 18 => ⟨S4x8x1023x64, .f32⟩
  | 19 => ⟨S4x1023x8x64, .f32⟩
  | 20 => ⟨S4x8x1023x64, .f32⟩
  | 21 => ⟨S4x1023x8x64, .f32⟩
  | 22 => ⟨S4x8x1023x64, .f32⟩
  | 23 => ⟨S4x8x1023x1023, .f32⟩
  | 24 => ⟨S_, .f32⟩
  | 25 => ⟨S_, .f32⟩
  | 26 => ⟨S_, .f32⟩
  | 27 => ⟨S4x8x1023x1023, .f32⟩
  | 28 => ⟨S4x8x1023x1023, .f32⟩
  | 29 => ⟨S1x1x1023x1023, .i1⟩
  | 30 => ⟨S_, .f32⟩
  | 31 => ⟨S_, .f32⟩
  | 32 => ⟨S4x8x1023x1023, .i1⟩
  | 33 => ⟨S4x8x1023x1023, .f32⟩
  | 34 => ⟨S4x8x1023x1023, .f32⟩
  | 35 => ⟨S_, .f32⟩
  | 36 => ⟨S4x8x1023, .f32⟩
  | 37 => ⟨S_, .f32⟩
  | 38 => ⟨S4x8x1023, .f32⟩
  | 39 => ⟨S4x8x1023, .f32⟩
  | 40 => ⟨S4x8x1023x1, .f32⟩
  | 41 => ⟨S4x8x1023x1023, .f32⟩
  | 42 => ⟨S4x8x1023x1023, .f32⟩
  | 43 => ⟨S4x8x1023x1023, .f32⟩
  | 44 => ⟨S_, .f32⟩
  | 45 => ⟨S4x8x1023, .f32⟩
  | 46 => ⟨S4x8x1023x1, .f32⟩
  | 47 => ⟨S4x8x1023x1023, .f32⟩
  | 48 => ⟨S4x8x1023x1023, .f32⟩
  | 49 => ⟨S4x8x1023x64, .f32⟩
  | 50 => ⟨S4x1023x8x64, .f32⟩
  | 51 => ⟨S4x1023x512, .f32⟩
  | 52 => ⟨S1x512x512, .f32⟩
  | 53 => ⟨S512x512, .f32⟩
  | 54 => ⟨S4x1023x512, .f32⟩
  | 55 => ⟨S4x1023x512, .f32⟩
  | 56 => ⟨S1x512, .f32⟩
  | 57 => ⟨S512, .f32⟩
  | 58 => ⟨S_, .f32⟩
  | 59 => ⟨S4x1023, .f32⟩
  | 60 => ⟨S4x1023x1, .f32⟩
  | 61 => ⟨S_, .f32⟩
  | 62 => ⟨S4x1023x1, .f32⟩
  | 63 => ⟨S4x1023x1, .f32⟩
  | 64 => ⟨S4x1023x512, .f32⟩
  | 65 => ⟨S4x1023x512, .f32⟩
  | 66 => ⟨S4x1023x512, .f32⟩
  | 67 => ⟨S_, .f32⟩
  | 68 => ⟨S4x1023, .f32⟩
  | 69 => ⟨S4x1023x1, .f32⟩
  | 70 => ⟨S_, .f32⟩
  | 71 => ⟨S4x1023x1, .f32⟩
  | 72 => ⟨S4x1023x1, .f32⟩
  | 73 => ⟨S4x1023x512, .f32⟩
  | 74 => ⟨S4x1023x512, .f32⟩
  | 75 => ⟨S_, .f32⟩
  | 76 => ⟨S4x1023x1, .f32⟩
  | 77 => ⟨S4x1023x1, .f32⟩
  | 78 => ⟨S4x1023x1, .f32⟩
  | 79 => ⟨S4x1023x512, .f32⟩
  | 80 => ⟨S4x1023x512, .f32⟩
  | 81 => ⟨S1x1x512, .f32⟩
  | 82 => ⟨S4x1023x512, .f32⟩
  | 83 => ⟨S4x1023x512, .f32⟩
  | 84 => ⟨S1x512x2048, .f32⟩
  | 85 => ⟨S512x2048, .f32⟩
  | 86 => ⟨S4x1023x2048, .f32⟩
  | 87 => ⟨S4x1023x2048, .f32⟩
  | 88 => ⟨S4x1023x2048, .f32⟩
  | 89 => ⟨S_, .f32⟩
  | 90 => ⟨S4x1023x2048, .f32⟩
  | 91 => ⟨S4x1023x2048, .f32⟩
  | 92 => ⟨S4x1023x2048, .f32⟩
  | 93 => ⟨S_, .f32⟩
  | 94 => ⟨S4x1023x2048, .f32⟩
  | 95 => ⟨S4x1023x2048, .f32⟩
  | 96 => ⟨S4x1023x2048, .f32⟩
  | 97 => ⟨S_, .f32⟩
  | 98 => ⟨S4x1023x2048, .f32⟩
  | 99 => ⟨S4x1023x2048, .f32⟩
  | 100 => ⟨S_, .f32⟩
  | 101 => ⟨S4x1023x2048, .f32⟩
  | 102 => ⟨S4x1023x2048, .f32⟩
  | 103 => ⟨S4x1023x2048, .f32⟩
  | 104 => ⟨S1x2048x512, .f32⟩
  | 105 => ⟨S2048x512, .f32⟩
  | 106 => ⟨S4x1023x512, .f32⟩
  | 107 => ⟨S4x1023x512, .f32⟩
  | 108 => ⟨S1x512, .f32⟩
  | 109 => ⟨S512, .f32⟩
  | 110 => ⟨S_, .f32⟩
  | 111 => ⟨S4x1023, .f32⟩
  | 112 => ⟨S4x1023x1, .f32⟩
  | 113 => ⟨S_, .f32⟩
  | 114 => ⟨S4x1023x1, .f32⟩
  | 115 => ⟨S4x1023x1, .f32⟩
  | 116 => ⟨S4x1023x512, .f32⟩
  | 117 => ⟨S4x1023x512, .f32⟩
  | 118 => ⟨S4x1023x512, .f32⟩
  | 119 => ⟨S_, .f32⟩
  | 120 => ⟨S4x1023, .f32⟩
  | 121 => ⟨S4x1023x1, .f32⟩
  | 122 => ⟨S_, .f32⟩
  | 123 => ⟨S4x1023x1, .f32⟩
  | 124 => ⟨S4x1023x1, .f32⟩
  | 125 => ⟨S4x1023x512, .f32⟩
  | 126 => ⟨S4x1023x512, .f32⟩
  | 127 => ⟨S_, .f32⟩
  | _ => ⟨S4x1024x13, .f32⟩

abbrev hbmTy0_2 (i : Nat) : BufTy := match i % 128 with
  | 0 => ⟨S4x1023x1, .f32⟩
  | 1 => ⟨S4x1023x1, .f32⟩
  | 2 => ⟨S4x1023x1, .f32⟩
  | 3 => ⟨S4x1023x512, .f32⟩
  | 4 => ⟨S4x1023x512, .f32⟩
  | 5 => ⟨S1x1x512, .f32⟩
  | 6 => ⟨S4x1023x512, .f32⟩
  | 7 => ⟨S4x1023x512, .f32⟩
  | 8 => ⟨S1x512x1536, .f32⟩
  | 9 => ⟨S512x1536, .f32⟩
  | 10 => ⟨S4x1023x1536, .f32⟩
  | 11 => ⟨S4x1023x512, .f32⟩
  | 12 => ⟨S4x1023x512, .f32⟩
  | 13 => ⟨S4x1023x512, .f32⟩
  | 14 => ⟨S4x1023x8x64, .f32⟩
  | 15 => ⟨S4x8x1023x64, .f32⟩
  | 16 => ⟨S4x1023x8x64, .f32⟩
  | 17 => ⟨S4x8x1023x64, .f32⟩
  | 18 => ⟨S4x1023x8x64, .f32⟩
  | 19 => ⟨S4x8x1023x64, .f32⟩
  | 20 => ⟨S4x8x1023x1023, .f32⟩
  | 21 => ⟨S_, .f32⟩
  | 22 => ⟨S_, .f32⟩
  | 23 => ⟨S_, .f32⟩
  | 24 => ⟨S4x8x1023x1023, .f32⟩
  | 25 => ⟨S4x8x1023x1023, .f32⟩
  | 26 => ⟨S1x1x1023x1023, .i1⟩
  | 27 => ⟨S_, .f32⟩
  | 28 => ⟨S_, .f32⟩
  | 29 => ⟨S4x8x1023x1023, .i1⟩
  | 30 => ⟨S4x8x1023x1023, .f32⟩
  | 31 => ⟨S4x8x1023x1023, .f32⟩
  | 32 => ⟨S_, .f32⟩
  | 33 => ⟨S4x8x1023, .f32⟩
  | 34 => ⟨S_, .f32⟩
  | 35 => ⟨S4x8x1023, .f32⟩
  | 36 => ⟨S4x8x1023, .f32⟩
  | 37 => ⟨S4x8x1023x1, .f32⟩
  | 38 => ⟨S4x8x1023x1023, .f32⟩
  | 39 => ⟨S4x8x1023x1023, .f32⟩
  | 40 => ⟨S4x8x1023x1023, .f32⟩
  | 41 => ⟨S_, .f32⟩
  | 42 => ⟨S4x8x1023, .f32⟩
  | 43 => ⟨S4x8x1023x1, .f32⟩
  | 44 => ⟨S4x8x1023x1023, .f32⟩
  | 45 => ⟨S4x8x1023x1023, .f32⟩
  | 46 => ⟨S4x8x1023x64, .f32⟩
  | 47 => ⟨S4x1023x8x64, .f32⟩
  | 48 => ⟨S4x1023x512, .f32⟩
  | 49 => ⟨S1x512x512, .f32⟩
  | 50 => ⟨S512x512, .f32⟩
  | 51 => ⟨S4x1023x512, .f32⟩
  | 52 => ⟨S4x1023x512, .f32⟩
  | 53 => ⟨S1x512, .f32⟩
  | 54 => ⟨S512, .f32⟩
  | 55 => ⟨S_, .f32⟩
  | 56 => ⟨S4x1023, .f32⟩
  | 57 => ⟨S4x1023x1, .f32⟩
  | 58 => ⟨S_, .f32⟩
  | 59 => ⟨S4x1023x1, .f32⟩
  | 60 => ⟨S4x1023x1, .f32⟩
  | 61 => ⟨S4x1023x512, .f32⟩
  | 62 => ⟨S4x1023x512, .f32⟩
  | 63 => ⟨S4x1023x512, .f32⟩
  | 64 => ⟨S_, .f32⟩
  | 65 => ⟨S4x1023, .f32⟩
  | 66 => ⟨S4x1023x1, .f32⟩
  | 67 => ⟨S_, .f32⟩
  | 68 => ⟨S4x1023x1, .f32⟩
  | 69 => ⟨S4x1023x1, .f32⟩
  | 70 => ⟨S4x1023x512, .f32⟩
  | 71 => ⟨S4x1023x512, .f32⟩
  | 72 => ⟨S_, .f32⟩
  | 73 => ⟨S4x1023x1, .f32⟩
  | 74 => ⟨S4x1023x1, .f32⟩
  | 75 => ⟨S4x1023x1, .f32⟩
  | 76 => ⟨S4x1023x512, .f32⟩
  | 77 => ⟨S4x1023x512, .f32⟩
  | 78 => ⟨S1x1x512, .f32⟩
  | 79 => ⟨S4x1023x512, .f32⟩
  | 80 => ⟨S4x1023x512, .f32⟩
  | 81 => ⟨S1x512x2048, .f32⟩
  | 82 => ⟨S512x2048, .f32⟩
  | 83 => ⟨S4x1023x2048, .f32⟩
  | 84 => ⟨S4x1023x2048, .f32⟩
  | 85 => ⟨S4x1023x2048, .f32⟩
  | 86 => ⟨S_, .f32⟩
  | 87 => ⟨S4x1023x2048, .f32⟩
  | 88 => ⟨S4x1023x2048, .f32⟩
  | 89 => ⟨S4x1023x2048, .f32⟩
  | 90 => ⟨S_, .f32⟩
  | 91 => ⟨S4x1023x2048, .f32⟩
  | 92 => ⟨S4x1023x2048, .f32⟩
  | 93 => ⟨S4x1023x2048, .f32⟩
  | 94 => ⟨S_, .f32⟩
  | 95 => ⟨S4x1023x2048, .f32⟩
  | 96 => ⟨S4x1023x2048, .f32⟩
  | 97 => ⟨S_, .f32⟩
  | 98 => ⟨S4x1023x2048, .f32⟩
  | 99 => ⟨S4x1023x2048, .f32⟩
  | 100 => ⟨S4x1023x2048, .f32⟩
  | 101 => ⟨S1x2048x512, .f32⟩
  | 102 => ⟨S2048x512, .f32⟩
  | 103 => ⟨S4x1023x512, .f32⟩
  | 104 => ⟨S4x1023x512, .f32⟩
  | 105 => ⟨S_, .f32⟩
  | 106 => ⟨S4x1023, .f32⟩
  | 107 => ⟨S4x1023x1, .f32⟩
  | 108 => ⟨S_, .f32⟩
  | 109 => ⟨S4x1023x1, .f32⟩
  | 110 => ⟨S4x1023x1, .f32⟩
  | 111 => ⟨S4x1023x512, .f32⟩
  | 112 => ⟨S4x1023x512, .f32⟩
  | 113 => ⟨S4x1023x512, .f32⟩
  | 114 => ⟨S_, .f32⟩
  | 115 => ⟨S4x1023, .f32⟩
  | 116 => ⟨S4x1023x1, .f32⟩
  | 117 => ⟨S_, .f32⟩
  | 118 => ⟨S4x1023x1, .f32⟩
  | 119 => ⟨S4x1023x1, .f32⟩
  | 120 => ⟨S4x1023x512, .f32⟩
  | 121 => ⟨S4x1023x512, .f32⟩
  | 122 => ⟨S_, .f32⟩
  | 123 => ⟨S4x1023x1, .f32⟩
  | 124 => ⟨S4x1023x1, .f32⟩
  | 125 => ⟨S4x1023x1, .f32⟩
  | 126 => ⟨S4x1023x512, .f32⟩
  | 127 => ⟨S4x1023x512, .f32⟩
  | _ => ⟨S4x1024x13, .f32⟩

abbrev hbmTy0_3 (i : Nat) : BufTy := match i % 128 with
  | 0 => ⟨S1x1x512, .f32⟩
  | 1 => ⟨S4x1023x512, .f32⟩
  | 2 => ⟨S4x1023x512, .f32⟩
  | 3 => ⟨S4x1023x13, .f32⟩
  | 4 => ⟨S4x1023x13, .f32⟩
  | 5 => ⟨S_, .f32⟩
  | 6 => ⟨S4x1023, .f32⟩
  | 7 => ⟨S4x1023x1, .f32⟩
  | 8 => ⟨S4x1023x1, .f32⟩
  | 9 => ⟨S_, .f32⟩
  | 10 => ⟨S4x1023x1, .f32⟩
  | 11 => ⟨S4x1023x1, .f32⟩
  | 12 => ⟨S4x1023x13, .f32⟩
  | 13 => ⟨S4x1023x13, .f32⟩
  | 14 => ⟨S4x1023x8192, .f32⟩
  | 15 => ⟨S4x1023, .i32⟩
  | 16 => ⟨S_, .f32⟩
  | 17 => ⟨S4x1023, .f32⟩
  | 18 => ⟨S_, .f32⟩
  | 19 => ⟨S4x1023, .f32⟩
  | 20 => ⟨S4x1023, .f32⟩
  | 21 => ⟨S4x1023x1, .f32⟩
  | 22 => ⟨S4x1023x8192, .f32⟩
  | 23 => ⟨S4x1023x8192, .f32⟩
  | 24 => ⟨S4x1023x8192, .f32⟩
  | 25 => ⟨S_, .f32⟩
  | 26 => ⟨S4x1023, .f32⟩
  | 27 => ⟨S4x1023x1, .f32⟩
  | 28 => ⟨S4x1023x1, .f32⟩
  | 29 => ⟨S4x1023x8192, .f32⟩
  | 30 => ⟨S4x1023x8192, .f32⟩
  | 31 => ⟨S4x1023x1, .i32⟩
  | 32 => ⟨S_, .i32⟩
  | 33 => ⟨S4x1023x1, .i32⟩
  | 34 => ⟨S4x1023x1, .i1⟩
  | 35 => ⟨S_, .i32⟩
  | 36 => ⟨S4x1023x1, .i32⟩
  | 37 => ⟨S4x1023x1, .i32⟩
  | 38 => ⟨S4x1023x1, .i32⟩
  | 39 => ⟨S4x1023x1x1, .i32⟩
  | 40 => ⟨S1, .i32⟩
  | 41 => ⟨S_, .i32⟩
  | 42 => ⟨S4x1023x1x1, .i32⟩
  | 43 => ⟨S4x1023x1x1, .i1⟩
  | 44 => ⟨S1x1x1x1, .i32⟩
  | 45 => ⟨S4x1023x1x1, .i32⟩
  | 46 => ⟨S4x1023x1x1, .i1⟩
  | 47 => ⟨S4x1023x1x1, .i1⟩
  | 48 => ⟨S_, .i1⟩
  | 49 => ⟨S4x1023x1, .i1⟩
  | 50 => ⟨S4x1023x1, .f32⟩
  | 51 => ⟨S_, .f32⟩
  | 52 => ⟨S4x1023x1, .f32⟩
  | 53 => ⟨S4x1023x1, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S4096, .i32⟩
  | 62 => ⟨S4096x1, .i32⟩
  | 63 => ⟨S1x4096, .i32⟩
  | 64 => ⟨S1x4096, .i32⟩
  | 65 => ⟨S1x4096, .i32⟩
  | 66 => ⟨S4096, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S4096, .i32⟩
  | 79 => ⟨S_, .i1⟩
  | 80 => ⟨S4096, .i1⟩
  | 81 => ⟨S4095, .i32⟩
  | 82 => ⟨S4095, .i32⟩
  | 83 => ⟨S4095, .i1⟩
  | 84 => ⟨S_, .i1⟩
  | 85 => ⟨S4095, .i1⟩
  | 86 => ⟨S_, .i32⟩
  | 87 => ⟨S1, .i32⟩
  | 88 => ⟨S4096, .i1⟩
  | 89 => ⟨S4096, .i32⟩
  | 90 => ⟨S_, .i32⟩
  | 91 => ⟨S_, .i32⟩
  | 92 => ⟨S4096, .i32⟩
  | 93 => ⟨S_, .i32⟩
  | 94 => ⟨S8192, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S_, .i32⟩
  | 104 => ⟨S4096, .i32⟩
  | 105 => ⟨S8192, .i32⟩
  | 106 => ⟨S_, .i32⟩
  | 107 => ⟨S_, .i32⟩
  | 108 => ⟨S8192, .i32⟩
  | 109 => ⟨S_, .i32⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S8192, .i32⟩
  | 118 => ⟨S8192, .i32⟩
  | 119 => ⟨S_, .i32⟩
  | 120 => ⟨S8192, .i32⟩
  | 121 => ⟨S8192, .i1⟩
  | 122 => ⟨S8192, .i1⟩
  | 123 => ⟨S_, .i32⟩
  | 124 => ⟨S8192, .i32⟩
  | 125 => ⟨S8192, .i32⟩
  | 126 => ⟨S8192, .i32⟩
  | 127 => ⟨S_, .i32⟩
  | _ => ⟨S4x1024x13, .f32⟩

abbrev hbmTy0_4 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i1⟩
  | 13 => ⟨S_, .i32⟩
  | 14 => ⟨S_, .i1⟩
  | 15 => ⟨S8192, .i1⟩
  | 16 => ⟨S8192, .i1⟩
  | 17 => ⟨S8192, .i1⟩
  | 18 => ⟨S8192, .i32⟩
  | 19 => ⟨S8192, .i32⟩
  | 20 => ⟨S8192, .i32⟩
  | 21 => ⟨S4096, .i32⟩
  | 22 => ⟨S_, .i32⟩
  | 23 => ⟨S_, .i32⟩
  | 24 => ⟨S1, .i32⟩
  | 25 => ⟨S8192, .i32⟩
  | 26 => ⟨S8192, .i32⟩
  | 27 => ⟨S8192, .i1⟩
  | 28 => ⟨S_, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .i32⟩
  | 41 => ⟨S8192, .i32⟩
  | 42 => ⟨S4096, .i32⟩
  | 43 => ⟨S_, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S_, .i32⟩
  | 51 => ⟨S8192, .i32⟩
  | 52 => ⟨S8192, .i1⟩
  | 53 => ⟨S8192, .i32⟩
  | 54 => ⟨S_, .i32⟩
  | 55 => ⟨S_, .i32⟩
  | 56 => ⟨S_, .f32⟩
  | 57 => ⟨S_, .f32⟩
  | 58 => ⟨S_, .f32⟩
  | 59 => ⟨S_, .f32⟩
  | 60 => ⟨S_, .f32⟩
  | _ => ⟨S4x1024x13, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1024x13, .f32⟩

abbrev bufTy : (tb : Table) → Fin (tcTables nBuf tb) → BufTy
  | .hbm, ⟨i, _⟩ => hbmTy i
  | _, _ => ⟨S4x1024x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v17 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_3 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_cst_5 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_c : Ref sig .tc := ⟨.hbm, 100, rfl⟩
abbrev main_v33 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_c_0 : Ref sig .tc := ⟨.hbm, 108, rfl⟩
abbrev main_call3_v5 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_6 : Ref sig .tc := ⟨.hbm, 113, rfl⟩
abbrev main_v37 : Ref sig .tc := ⟨.hbm, 114, rfl⟩
abbrev main_v38 : Ref sig .tc := ⟨.hbm, 115, rfl⟩
abbrev main_cst_7 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_cst_8 : Ref sig .tc := ⟨.hbm, 122, rfl⟩
abbrev main_v44 : Ref sig .tc := ⟨.hbm, 123, rfl⟩
abbrev main_v45 : Ref sig .tc := ⟨.hbm, 124, rfl⟩
abbrev main_cst_9 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_10 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_cst_11 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_12 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_v76 : Ref sig .tc := ⟨.hbm, 162, rfl⟩
abbrev main_cst_13 : Ref sig .tc := ⟨.hbm, 163, rfl⟩
abbrev main_v77 : Ref sig .tc := ⟨.hbm, 164, rfl⟩
abbrev main_cst_14 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_cst_15 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_cst_16 : Ref sig .tc := ⟨.hbm, 186, rfl⟩
abbrev main_v97 : Ref sig .tc := ⟨.hbm, 187, rfl⟩
abbrev main_v98 : Ref sig .tc := ⟨.hbm, 188, rfl⟩
abbrev main_cst_17 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_18 : Ref sig .tc := ⟨.hbm, 195, rfl⟩
abbrev main_v104 : Ref sig .tc := ⟨.hbm, 196, rfl⟩
abbrev main_v105 : Ref sig .tc := ⟨.hbm, 197, rfl⟩
abbrev main_cst_19 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_cst_20 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_cst_21 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_cst_22 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_cst_23 : Ref sig .tc := ⟨.hbm, 225, rfl⟩
abbrev main_v129 : Ref sig .tc := ⟨.hbm, 226, rfl⟩
abbrev main_v130 : Ref sig .tc := ⟨.hbm, 227, rfl⟩
abbrev main_cst_24 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_cst_25 : Ref sig .tc := ⟨.hbm, 238, rfl⟩
abbrev main_v140 : Ref sig .tc := ⟨.hbm, 239, rfl⟩
abbrev main_v141 : Ref sig .tc := ⟨.hbm, 240, rfl⟩
abbrev main_cst_26 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_cst_27 : Ref sig .tc := ⟨.hbm, 247, rfl⟩
abbrev main_v147 : Ref sig .tc := ⟨.hbm, 248, rfl⟩
abbrev main_v148 : Ref sig .tc := ⟨.hbm, 249, rfl⟩
abbrev main_cst_28 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_cst_29 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_cst_30 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_cst_31 : Ref sig .tc := ⟨.hbm, 283, rfl⟩
abbrev main_call5_v0 : Ref sig .tc := ⟨.hbm, 284, rfl⟩
abbrev main_call5_v1 : Ref sig .tc := ⟨.hbm, 285, rfl⟩
abbrev main_call5_v2 : Ref sig .tc := ⟨.hbm, 286, rfl⟩
abbrev main_v179 : Ref sig .tc := ⟨.hbm, 287, rfl⟩
abbrev main_cst_32 : Ref sig .tc := ⟨.hbm, 288, rfl⟩
abbrev main_v180 : Ref sig .tc := ⟨.hbm, 289, rfl⟩
abbrev main_cst_33 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_34 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_35 : Ref sig .tc := ⟨.hbm, 311, rfl⟩
abbrev main_v200 : Ref sig .tc := ⟨.hbm, 312, rfl⟩
abbrev main_v201 : Ref sig .tc := ⟨.hbm, 313, rfl⟩
abbrev main_cst_36 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_cst_37 : Ref sig .tc := ⟨.hbm, 320, rfl⟩
abbrev main_v207 : Ref sig .tc := ⟨.hbm, 321, rfl⟩
abbrev main_v208 : Ref sig .tc := ⟨.hbm, 322, rfl⟩
abbrev main_cst_38 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_cst_39 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_cst_40 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_cst_41 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_cst_42 : Ref sig .tc := ⟨.hbm, 350, rfl⟩
abbrev main_v232 : Ref sig .tc := ⟨.hbm, 351, rfl⟩
abbrev main_v233 : Ref sig .tc := ⟨.hbm, 352, rfl⟩
abbrev main_cst_43 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_cst_44 : Ref sig .tc := ⟨.hbm, 361, rfl⟩
abbrev main_v241 : Ref sig .tc := ⟨.hbm, 362, rfl⟩
abbrev main_v242 : Ref sig .tc := ⟨.hbm, 363, rfl⟩
abbrev main_cst_45 : Ref sig .tc := ⟨.hbm, 364, rfl⟩
abbrev main_v243 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_v247 : Ref sig .tc := ⟨.hbm, 369, rfl⟩
abbrev main_cst_46 : Ref sig .tc := ⟨.hbm, 370, rfl⟩
abbrev main_v248 : Ref sig .tc := ⟨.hbm, 371, rfl⟩
abbrev main_v249 : Ref sig .tc := ⟨.hbm, 372, rfl⟩
abbrev main_cst_47 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_cst_48 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_cst_49 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_cst_50 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_call6_cst : Ref sig .tc := ⟨.hbm, 400, rfl⟩
abbrev main_call6_v0 : Ref sig .tc := ⟨.hbm, 401, rfl⟩
abbrev main_call6_cst_0 : Ref sig .tc := ⟨.hbm, 402, rfl⟩
abbrev main_call6_v1 : Ref sig .tc := ⟨.hbm, 403, rfl⟩
abbrev main_call6_v2 : Ref sig .tc := ⟨.hbm, 404, rfl⟩
abbrev main_call6_v3 : Ref sig .tc := ⟨.hbm, 405, rfl⟩
abbrev main_call6_v4 : Ref sig .tc := ⟨.hbm, 406, rfl⟩
abbrev main_call6_v5 : Ref sig .tc := ⟨.hbm, 407, rfl⟩
abbrev main_call6_v6 : Ref sig .tc := ⟨.hbm, 408, rfl⟩
abbrev main_call6_cst_1 : Ref sig .tc := ⟨.hbm, 409, rfl⟩
abbrev main_call6_v7 : Ref sig .tc := ⟨.hbm, 410, rfl⟩
abbrev main_call6_v8 : Ref sig .tc := ⟨.hbm, 411, rfl⟩
abbrev main_call6_v9 : Ref sig .tc := ⟨.hbm, 412, rfl⟩
abbrev main_call6_v10 : Ref sig .tc := ⟨.hbm, 413, rfl⟩
abbrev main_v273 : Ref sig .tc := ⟨.hbm, 414, rfl⟩
abbrev main_v274 : Ref sig .tc := ⟨.hbm, 415, rfl⟩
abbrev main_call7_c : Ref sig .tc := ⟨.hbm, 416, rfl⟩
abbrev main_call7_v0 : Ref sig .tc := ⟨.hbm, 417, rfl⟩
abbrev main_call7_v1 : Ref sig .tc := ⟨.hbm, 418, rfl⟩
abbrev main_call7_c_0 : Ref sig .tc := ⟨.hbm, 419, rfl⟩
abbrev main_call7_v2 : Ref sig .tc := ⟨.hbm, 420, rfl⟩
abbrev main_call7_v3 : Ref sig .tc := ⟨.hbm, 421, rfl⟩
abbrev main_call7_v4 : Ref sig .tc := ⟨.hbm, 422, rfl⟩
abbrev main_call7_v5 : Ref sig .tc := ⟨.hbm, 423, rfl⟩
abbrev main_call7_c_1 : Ref sig .tc := ⟨.hbm, 424, rfl⟩
abbrev main_call7_c_2 : Ref sig .tc := ⟨.hbm, 425, rfl⟩
abbrev main_call7_v6 : Ref sig .tc := ⟨.hbm, 426, rfl⟩
abbrev main_call7_v7 : Ref sig .tc := ⟨.hbm, 427, rfl⟩
abbrev main_call7_v8 : Ref sig .tc := ⟨.hbm, 428, rfl⟩
abbrev main_call7_v9 : Ref sig .tc := ⟨.hbm, 429, rfl⟩
abbrev main_call7_v10 : Ref sig .tc := ⟨.hbm, 430, rfl⟩
abbrev main_call7_v11 : Ref sig .tc := ⟨.hbm, 431, rfl⟩
abbrev main_call7_c_3 : Ref sig .tc := ⟨.hbm, 432, rfl⟩
abbrev main_call7_v12 : Ref sig .tc := ⟨.hbm, 433, rfl⟩
abbrev main_call7_v13 : Ref sig .tc := ⟨.hbm, 434, rfl⟩
abbrev main_call7_cst : Ref sig .tc := ⟨.hbm, 435, rfl⟩
abbrev main_call7_v14 : Ref sig .tc := ⟨.hbm, 436, rfl⟩
abbrev main_v275 : Ref sig .tc := ⟨.hbm, 437, rfl⟩
abbrev main_cst_51 : Ref sig .tc := ⟨.hbm, 438, rfl⟩
abbrev main_v276 : Ref sig .tc := ⟨.hbm, 439, rfl⟩
abbrev main_cst_52 : Ref sig .tc := ⟨.hbm, 440, rfl⟩
abbrev main_v277 : Ref sig .tc := ⟨.hbm, 441, rfl⟩
abbrev main_v278 : Ref sig .tc := ⟨.hbm, 442, rfl⟩
abbrev main_cst_53 : Ref sig .tc := ⟨.hbm, 443, rfl⟩
abbrev main_v279 : Ref sig .tc := ⟨.hbm, 444, rfl⟩
abbrev main_v280 : Ref sig .tc := ⟨.hbm, 445, rfl⟩
abbrev main_call8_v0 : Ref sig .tc := ⟨.hbm, 446, rfl⟩
abbrev main_call8_v1 : Ref sig .tc := ⟨.hbm, 447, rfl⟩
abbrev main_call8_v2 : Ref sig .tc := ⟨.hbm, 448, rfl⟩
abbrev main_call8_call0_v0 : Ref sig .tc := ⟨.hbm, 449, rfl⟩
abbrev main_call8_call0_v1 : Ref sig .tc := ⟨.hbm, 450, rfl⟩
abbrev main_call8_call0_v2 : Ref sig .tc := ⟨.hbm, 451, rfl⟩
abbrev main_call8_call0_v3_0 : Ref sig .tc := ⟨.hbm, 452, rfl⟩
abbrev main_v281_2 : Ref sig .tc := ⟨.hbm, 453, rfl⟩
abbrev main_call8_c : Ref sig .tc := ⟨.hbm, 454, rfl⟩
abbrev main_call8_v4 : Ref sig .tc := ⟨.hbm, 455, rfl⟩
abbrev main_call8_v5 : Ref sig .tc := ⟨.hbm, 456, rfl⟩
abbrev main_call8_c_0 : Ref sig .tc := ⟨.hbm, 457, rfl⟩
abbrev main_call8_v6 : Ref sig .tc := ⟨.hbm, 458, rfl⟩
abbrev main_call8_v7 : Ref sig .tc := ⟨.hbm, 459, rfl⟩
abbrev main_call8_v8 : Ref sig .tc := ⟨.hbm, 460, rfl⟩
abbrev main_call8_v9 : Ref sig .tc := ⟨.hbm, 461, rfl⟩
abbrev main_v281_0 : Ref sig .tc := ⟨.hbm, 462, rfl⟩
abbrev main_call8_c_1 : Ref sig .tc := ⟨.hbm, 463, rfl⟩
abbrev main_call8_v11 : Ref sig .tc := ⟨.hbm, 464, rfl⟩
abbrev main_call8_v12 : Ref sig .tc := ⟨.hbm, 465, rfl⟩
abbrev main_call8_v13 : Ref sig .tc := ⟨.hbm, 466, rfl⟩
abbrev main_call8_v14 : Ref sig .tc := ⟨.hbm, 467, rfl⟩
abbrev main_call8_c_2 : Ref sig .tc := ⟨.hbm, 468, rfl⟩
abbrev main_call8_v15 : Ref sig .tc := ⟨.hbm, 469, rfl⟩
abbrev main_call8_c_3 : Ref sig .tc := ⟨.hbm, 470, rfl⟩
abbrev main_call8_v16 : Ref sig .tc := ⟨.hbm, 471, rfl⟩
abbrev main_v281_1 : Ref sig .tc := ⟨.hbm, 472, rfl⟩
abbrev main_call9_v0 : Ref sig .tc := ⟨.hbm, 473, rfl⟩
abbrev main_call9_call0_c : Ref sig .tc := ⟨.hbm, 474, rfl⟩
abbrev main_call9_call0_v0 : Ref sig .tc := ⟨.hbm, 475, rfl⟩
abbrev main_v282 : Ref sig .tc := ⟨.hbm, 476, rfl⟩
abbrev main_c_54 : Ref sig .tc := ⟨.hbm, 477, rfl⟩
abbrev main_v283 : Ref sig .tc := ⟨.hbm, 478, rfl⟩
abbrev main_c_55 : Ref sig .tc := ⟨.hbm, 479, rfl⟩
abbrev main_v284 : Ref sig .tc := ⟨.hbm, 480, rfl⟩
abbrev main_v285 : Ref sig .tc := ⟨.hbm, 481, rfl⟩
abbrev main_c_56 : Ref sig .tc := ⟨.hbm, 482, rfl⟩
abbrev main_v286 : Ref sig .tc := ⟨.hbm, 483, rfl⟩
abbrev main_v287 : Ref sig .tc := ⟨.hbm, 484, rfl⟩
abbrev main_v288 : Ref sig .tc := ⟨.hbm, 485, rfl⟩
abbrev main_v289 : Ref sig .tc := ⟨.hbm, 486, rfl⟩
abbrev main_c_57 : Ref sig .tc := ⟨.hbm, 487, rfl⟩
abbrev main_v290 : Ref sig .tc := ⟨.hbm, 488, rfl⟩
abbrev main_v291 : Ref sig .tc := ⟨.hbm, 489, rfl⟩
abbrev main_call10_call0_c : Ref sig .tc := ⟨.hbm, 490, rfl⟩
abbrev main_call10_call0_v0 : Ref sig .tc := ⟨.hbm, 491, rfl⟩
abbrev main_v292 : Ref sig .tc := ⟨.hbm, 492, rfl⟩
abbrev main_c_58 : Ref sig .tc := ⟨.hbm, 493, rfl⟩
abbrev main_call11_v0 : Ref sig .tc := ⟨.hbm, 494, rfl⟩
abbrev main_call11_v1 : Ref sig .tc := ⟨.hbm, 495, rfl⟩
abbrev main_call11_v2 : Ref sig .tc := ⟨.hbm, 496, rfl⟩
abbrev main_call11_v3 : Ref sig .tc := ⟨.hbm, 497, rfl⟩
abbrev main_call11_v4 : Ref sig .tc := ⟨.hbm, 498, rfl⟩
abbrev main_call11_v5 : Ref sig .tc := ⟨.hbm, 499, rfl⟩
abbrev main_call11_v6 : Ref sig .tc := ⟨.hbm, 500, rfl⟩
abbrev main_call11_v7 : Ref sig .tc := ⟨.hbm, 501, rfl⟩
abbrev main_call11_v8 : Ref sig .tc := ⟨.hbm, 502, rfl⟩
abbrev main_call11_c : Ref sig .tc := ⟨.hbm, 503, rfl⟩
abbrev main_call11_v9 : Ref sig .tc := ⟨.hbm, 504, rfl⟩
abbrev main_call11_v10 : Ref sig .tc := ⟨.hbm, 505, rfl⟩
abbrev main_call11_v11 : Ref sig .tc := ⟨.hbm, 506, rfl⟩
abbrev main_call11_c_0 : Ref sig .tc := ⟨.hbm, 507, rfl⟩
abbrev main_call11_v12 : Ref sig .tc := ⟨.hbm, 508, rfl⟩
abbrev main_call11_v13 : Ref sig .tc := ⟨.hbm, 509, rfl⟩
abbrev main_v293 : Ref sig .tc := ⟨.hbm, 510, rfl⟩
abbrev main_c_59 : Ref sig .tc := ⟨.hbm, 511, rfl⟩
abbrev main_call12_v0 : Ref sig .tc := ⟨.hbm, 512, rfl⟩
abbrev main_call12_c : Ref sig .tc := ⟨.hbm, 513, rfl⟩
abbrev main_call12_v1 : Ref sig .tc := ⟨.hbm, 514, rfl⟩
abbrev main_call12_c_0 : Ref sig .tc := ⟨.hbm, 515, rfl⟩
abbrev main_call12_v2 : Ref sig .tc := ⟨.hbm, 516, rfl⟩
abbrev main_call12_v3 : Ref sig .tc := ⟨.hbm, 517, rfl⟩
abbrev main_call12_v4 : Ref sig .tc := ⟨.hbm, 518, rfl⟩
abbrev main_call12_c_1 : Ref sig .tc := ⟨.hbm, 519, rfl⟩
abbrev main_call12_v5 : Ref sig .tc := ⟨.hbm, 520, rfl⟩
abbrev main_call12_v6 : Ref sig .tc := ⟨.hbm, 521, rfl⟩
abbrev main_call12_c_2 : Ref sig .tc := ⟨.hbm, 522, rfl⟩
abbrev main_call12_v7 : Ref sig .tc := ⟨.hbm, 523, rfl⟩
abbrev main_call12_v8 : Ref sig .tc := ⟨.hbm, 524, rfl⟩
abbrev main_call12_c_3 : Ref sig .tc := ⟨.hbm, 525, rfl⟩
abbrev main_call12_v9 : Ref sig .tc := ⟨.hbm, 526, rfl⟩
abbrev main_call12_v10 : Ref sig .tc := ⟨.hbm, 527, rfl⟩
abbrev main_call12_v11 : Ref sig .tc := ⟨.hbm, 528, rfl⟩
abbrev main_call12_v12 : Ref sig .tc := ⟨.hbm, 529, rfl⟩
abbrev main_call12_v13 : Ref sig .tc := ⟨.hbm, 530, rfl⟩
abbrev main_call12_v14 : Ref sig .tc := ⟨.hbm, 531, rfl⟩
abbrev main_v294 : Ref sig .tc := ⟨.hbm, 532, rfl⟩
abbrev main_v295 : Ref sig .tc := ⟨.hbm, 533, rfl⟩
abbrev main_c_60 : Ref sig .tc := ⟨.hbm, 534, rfl⟩
abbrev main_v296 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_v300 : Ref sig .tc := ⟨.hbm, 539, rfl⟩
abbrev main_c_61 : Ref sig .tc := ⟨.hbm, 540, rfl⟩
abbrev main_call13_v0 : Ref sig .tc := ⟨.hbm, 541, rfl⟩
abbrev main_call13_v1 : Ref sig .tc := ⟨.hbm, 542, rfl⟩
abbrev main_v301 : Ref sig .tc := ⟨.hbm, 543, rfl⟩
abbrev main_c_62 : Ref sig .tc := ⟨.hbm, 544, rfl⟩
abbrev main_v302 : Ref sig .tc := ⟨.hbm, 545, rfl⟩
abbrev main_v303 : Ref sig .tc := ⟨.hbm, 546, rfl⟩
abbrev main_c_63 : Ref sig .tc := ⟨.hbm, 547, rfl⟩
abbrev main_v304 : Ref sig .tc := ⟨.hbm, 548, rfl⟩
abbrev main_v305 : Ref sig .tc := ⟨.hbm, 549, rfl⟩
abbrev main_v306 : Ref sig .tc := ⟨.hbm, 550, rfl⟩
abbrev main_v307 : Ref sig .tc := ⟨.hbm, 551, rfl⟩
abbrev main_v308 : Ref sig .tc := ⟨.hbm, 552, rfl⟩
abbrev main_v309 : Ref sig .tc := ⟨.hbm, 553, rfl⟩
abbrev main_v310 : Ref sig .tc := ⟨.hbm, 554, rfl⟩
abbrev main_c_64 : Ref sig .tc := ⟨.hbm, 555, rfl⟩
abbrev main_v311 : Ref sig .tc := ⟨.hbm, 556, rfl⟩
abbrev main_v312 : Ref sig .tc := ⟨.hbm, 557, rfl⟩
abbrev main_v313 : Ref sig .tc := ⟨.hbm, 558, rfl⟩
abbrev main_c_65 : Ref sig .tc := ⟨.hbm, 559, rfl⟩
abbrev main_call14_v0 : Ref sig .tc := ⟨.hbm, 560, rfl⟩
abbrev main_v314 : Ref sig .tc := ⟨.hbm, 561, rfl⟩
abbrev main_c_66 : Ref sig .tc := ⟨.hbm, 562, rfl⟩
abbrev main_v315 : Ref sig .tc := ⟨.hbm, 563, rfl⟩
abbrev main_v316 : Ref sig .tc := ⟨.hbm, 564, rfl⟩
abbrev main_v317 : Ref sig .tc := ⟨.hbm, 565, rfl⟩
abbrev main_c_67 : Ref sig .tc := ⟨.hbm, 566, rfl⟩
abbrev main_v318 : Ref sig .tc := ⟨.hbm, 567, rfl⟩
abbrev main_v319 : Ref sig .tc := ⟨.hbm, 568, rfl⟩
abbrev main_cst_68 : Ref sig .tc := ⟨.hbm, 569, rfl⟩
abbrev main_v320 : Ref sig .tc := ⟨.hbm, 570, rfl⟩
abbrev main_cst_69 : Ref sig .tc := ⟨.hbm, 571, rfl⟩
abbrev main_v321 : Ref sig .tc := ⟨.hbm, 572, rfl⟩

abbrev nD : Nat := 1
abbrev τ : Topo := Topo.v7x

variable {F : FTy → Type} [FloatOps F]
-- ==== Proof.RefRun.lean ====
/- The run of the reference: its operations as one list, and what every buffer holds after them. -/
module

public import proofs.«01_k».proof.Proof.Gen.ReferenceIdeal
public import Idealize.ShloMosaic.Lib.StableHlo.RunHlo
public import Idealize.ShloMosaic.Lib.StableHlo.RunRead
public import Idealize.ShloMosaic.Lib.Quiescent
public import Idealize.ShloMosaic.Lib.Claim
public import Idealize.ShloMosaic.PureOps.Ideal

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

set_option maxHeartbeats 2000000 in
/-- The reference's operations in order, read off its text. -/
def refSeq : {ops : List (HloOp τ sig (Elt Ideal)) // ∀ d, StableHlo.IsSeq (main (F := Ideal) d) ops} :=
  by apply Subtype.mk; hlo_seq

set_option maxHeartbeats 2000000 in
/-- Every operation touches buffers of the main core only. -/
theorem refSeq_bufs : refSeq.1.Forall fun op => op.bufs ⊆ StableHlo.tcRefs τ sig := by
  unfold refSeq
  simp

set_option maxHeartbeats 2000000 in
/-- No operation allocates a buffer. -/
theorem refSeq_fresh : ∀ op ∈ refSeq.1, op.fresh = ∅ := by
  unfold refSeq
  intro _ h
  (repeat (cases h with | head => rfl | tail _ h => ?_)); exact nomatch h

/-- The reference runs, and each buffer ends with what the list of operations leaves in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = StableHlo.after refSeq.1 (StableHlo.launchContents m d) (Proc.devRef .tc b) :=
  StableHlo.run_hlo _ _ refSeq.2 (by decide) (by decide) refSeq_bufs refSeq_fresh m ρ

/-- The twelve arguments are written by no operation. -/
theorem args_kept (V : Valuation τ sig (Elt Ideal)) (r : Ref sig .tc)
    (h : r ∈ [main_arg0, main_arg1, main_arg2, main_arg3, main_arg4, main_arg5, main_arg6, main_arg7, main_arg8,
      main_arg9, main_arg10, main_arg11]) :
    StableHlo.after refSeq.1 V (Proc.devRef .tc r) = V (Proc.devRef .tc r) := by
  simp only [List.mem_cons, List.not_mem_nil, or_false] at h
  rcases h with h | h | h | h | h | h | h | h | h | h | h | h <;> subst h <;> after_reads_simp

end Cert.ReferenceIdeal.Hand

end
-- ==== Proof.Frames.lean ====
/- The frames of the three programs and the meaning of the one named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.RefRun

@[expose] public section

set_option maxRecDepth 16384

noncomputable section

namespace Cert.Proof

open Idealize.ShloMosaic Idealize.ShloMosaic.TcCoe Idealize.SL.Sem

/-- The kernel runs from every memory, ends with its arguments unchanged and every counter at zero. -/
theorem frame_kernel : Cert.quiescent_Kernel := fun m g _ => Cert.Kernel.Gen.frame m g

/-- The idealized kernel runs from every memory, ends with its arguments unchanged and every counter at zero. -/
theorem frame_kernel_ideal : Cert.quiescent_KernelIdeal := fun m g _ => Cert.KernelIdeal.Gen.frame m g

/-- The reference runs from every memory, ends with its arguments unchanged and every counter at zero. -/
theorem frame_reference : Cert.quiescent_ReferenceIdeal := fun m g _ =>
  θ_run_mono (Cert.ReferenceIdeal.Hand.run m g) fun r h =>
    have a := fun (c : Dev Cert.ReferenceIdeal.nD) b hb =>
      (h c b).trans (Cert.ReferenceIdeal.Hand.args_kept (StableHlo.launchContents m c) b hb)
    ⟨fun c => ⟨a c _ (by decide), a c _ (by decide), a c _ (by decide), a c _ (by decide), a c _ (by decide),
      a c _ (by decide), a c _ (by decide), a c _ (by decide), a c _ (by decide), a c _ (by decide), a c _ (by decide),
      a c _ (by decide)⟩, sem_eq_zero_of_no_sems (by decide) _⟩

/-- The constant that the kernel's text gives as -1e9 is named, and stands for minus infinity. -/
theorem preserves : Cert.preserves_Kernel_KernelIdeal := IdealRules.named_const.statement _ _ _ _ _ rfl

end Cert.Proof

end
-- ==== Proof.KRun.lean ====
/- The kernel's run: what every buffer holds when the program ends. -/
module

public import proofs.«01_k».proof.Proof.Gen.KernelIdeal.Frame
public import Idealize.ShloMosaic.PureOps.Ideal
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable (m : (ℓ : Loc nD τ sig) → Buf (Elt Ideal) ℓ) (ρ : Dev nD → PrngReg)

set_option backward.isDefEq.respectTransparency.types false in
/-- Run from any memory, the kernel ends with every unscoped buffer at the contents of the last boundary. -/
theorem run : θ_run (defs (F := Ideal)) (onTc (τ := τ) (main (F := Ideal))) ⟨m, fun _ => 0, ρ⟩ fun r =>
    ∀ c : Dev nD, ∀ b ∈ Pipeline.ucRefs τ sig, r.2.mem (((c : Thread nD τ)).1, b) = W25 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun _ h _ => h)

end Cert.KernelIdeal.Hand

end
-- ==== Proof.KBody.lean ====
/- The prior's body in the steps of the model: layernorm, attention of a head over the first and the second half
   of the queries, residual, feed-forward, output. -/
module

public import proofs.«01_k».proof.Proof.Gen.KernelIdeal.Frame
public import Idealize.ShloMosaic.PureOps.Ideal
public import Idealize.ShloMosaic.Lib.Pointwise

@[expose] public section

set_option maxRecDepth 16384

noncomputable section

namespace Cert.KernelIdeal.Hand

open Idealize.ShloMosaic Idealize.ShloMosaic.TcCoe
open Cert.KernelIdeal.Gen
open Facts

/-- The layernorm of every row, with the scale `g`. -/
def lnK (h : FVec Ideal S1024x512 .f32) (g : FVec Ideal S1x512 .f32) : FVec Ideal S1024x512 .f32 :=
  let mu : FVec Ideal S1024x1 .f32 := divf (shapeCast S1024x1
    (multiReduction .add [1] S1024 h 0x00000000#32 reduces_S1024x512_S1024 (.inl rfl) rfl) shapeCasts_S1024_S1024x1)
    (broadcast S1024x1 (Scalar.ofBits .f32 0x44000000#32))
  let y : FVec Ideal S1024x512 .f32 := subf h (broadcastTo S1024x512 mu broadcasts_S1024x1_S1024x512)
  let var : FVec Ideal S1024x1 .f32 := divf (shapeCast S1024x1
    (multiReduction .add [1] S1024 (mulf y y) 0x00000000#32 reduces_S1024x512_S1024 (.inl rfl) rfl) shapeCasts_S1024_S1024x1)
    (broadcast S1024x1 (Scalar.ofBits .f32 0x44000000#32))
  mulf (divf y (broadcastTo S1024x512 (sqrt (addf var (broadcast S1024x1 (Scalar.ofBits .f32 0x3727C5AC#32))))
    broadcasts_S1024x1_S1024x512)) (broadcastTo S1024x512 g broadcasts_S1x512_S1024x512)

/-- The queries, keys and values of every row. -/
def qkvK (a : FVec Ideal S1024x512 .f32) (w : FVec Ideal S1x512x1536 .f32) : FVec Ideal S1024x1536 .f32 :=
  matmul dot_S1024x512_S512x1536_S1024x1536_1_0_0_1_n_n none (truncf .bf16 a bitsLt_bf16_f32)
    (truncf .bf16 (shapeCast S512x1536 w shapeCasts_S1x512x1536_S512x1536 : FVec Ideal S512x1536 .f32) bitsLt_bf16_f32)
    (constant S1024x1536 .f32 0x00000000#32)

/-- The masked scores of one head, the first 512 queries against the first 512 keys. -/
def score0 (q : FVec Ideal S512x64 .f32) (k : FVec Ideal S512x64 .f32) : FVec Ideal S512x512 .f32 :=
  let s : FVec Ideal S512x512 .f32 := divf (matmul dot_S512x64_S512x64_S512x512_1_1_0_0_n_n none
    (truncf .bf16 q bitsLt_bf16_f32) (truncf .bf16 k bitsLt_bf16_f32) (constant S512x512 .f32 0x00000000#32))
    (broadcast S512x512 (Scalar.sqrt (Scalar.ofBits .f32 0x42800000#32)))
  select k0_pay3 s (broadcast S512x512 (Named.named κ "mask" 0xCE6E6B28#32))

/-- The softmax of masked scores, times the values. -/
def smx0 (w : FVec Ideal S512x512 .f32) (v : FVec Ideal S512x64 .f32) : FVec Ideal S512x64 .f32 :=
  let mx : FVec Ideal S512 .f32 := maximumf (broadcast S512 (Scalar.ofBits .f32 0xFF800000#32))
    (multiReduction .maximumf [1] S512 w 0xFF800000#32 reduces_S512x512_S512 (.inl rfl) rfl)
  let e : FVec Ideal S512x512 .f32 := exp (subf w (broadcastTo S512x512 (shapeCast S512x1 mx shapeCasts_S512_S512x1)
    broadcasts_S512x1_S512x512))
  let p : FVec Ideal S512x512 .f32 := divf e (broadcastTo S512x512 (shapeCast S512x1
    (multiReduction .add [1] S512 e 0x00000000#32 reduces_S512x512_S512 (.inl rfl) rfl) shapeCasts_S512_S512x1)
    broadcasts_S512x1_S512x512)
  matmul dot_S512x512_S512x64_S512x64_1_0_0_1_n_n none (truncf .bf16 p bitsLt_bf16_f32)
    (truncf .bf16 v bitsLt_bf16_f32) (constant S512x64 .f32 0x00000000#32)

/-- One head over the first 512 queries and keys. -/
def soft0 (q k v : FVec Ideal S512x64 .f32) : FVec Ideal S512x64 .f32 := smx0 (score0 q k) v

/-- The masked scores of one head, the last 512 queries against all keys. -/
def score1 (q : FVec Ideal S512x64 .f32) (k : FVec Ideal S1024x64 .f32) : FVec Ideal S512x1024 .f32 :=
  let s : FVec Ideal S512x1024 .f32 := divf (matmul dot_S512x64_S1024x64_S512x1024_1_1_0_0_n_n none
    (truncf .bf16 q bitsLt_bf16_f32) (truncf .bf16 k bitsLt_bf16_f32) (constant S512x1024 .f32 0x00000000#32))
    (broadcast S512x1024 (Scalar.sqrt (Scalar.ofBits .f32 0x42800000#32)))
  concatenate S512x1024 1
    [⟨S512x512, extractStridedSlice S512x512 ![0, 0] s slices_S512x1024_o0_0_S512x512⟩,
     ⟨S512x512, select k0_pay3 (extractStridedSlice S512x512 ![0, 512] s slices_S512x1024_o0_512_S512x512)
      (broadcast S512x512 (Named.named κ "mask" 0xCE6E6B28#32))⟩] concatenates_S512x512_S512x512_S512x1024_d1

/-- The softmax of masked scores, times the values. -/
def smx1 (w : FVec Ideal S512x1024 .f32) (v : FVec Ideal S1024x64 .f32) : FVec Ideal S512x64 .f32 :=
  let mx : FVec Ideal S512 .f32 := maximumf (broadcast S512 (Scalar.ofBits .f32 0xFF800000#32))
    (multiReduction .maximumf [1] S512 w 0xFF800000#32 reduces_S512x1024_S512 (.inl rfl) rfl)
  let e : FVec Ideal S512x1024 .f32 := exp (subf w (broadcastTo S512x1024 (shapeCast S512x1 mx shapeCasts_S512_S512x1)
    broadcasts_S512x1_S512x1024))
  let p : FVec Ideal S512x1024 .f32 := divf e (broadcastTo S512x1024 (shapeCast S512x1
    (multiReduction .add [1] S512 e 0x00000000#32 reduces_S512x1024_S512 (.inl rfl) rfl) shapeCasts_S512_S512x1)
    broadcasts_S512x1_S512x1024)
  matmul dot_S512x1024_S1024x64_S512x64_1_0_0_1_n_n none (truncf .bf16 p bitsLt_bf16_f32)
    (truncf .bf16 v bitsLt_bf16_f32) (constant S512x64 .f32 0x00000000#32)

/-- One head over the last 512 queries and all keys. -/
def soft1 (q : FVec Ideal S512x64 .f32) (k v : FVec Ideal S1024x64 .f32) : FVec Ideal S512x64 .f32 := smx1 (score1 q k) v

/-- The eight heads of the first 512 rows, side by side. -/
def heads0 (x : FVec Ideal S1024x1536 .f32) : FVec Ideal S512x512 .f32 :=
  concatenate S512x512 1 [
    ⟨S512x64, soft0 (extractStridedSlice S512x64 ![0, 0] x slices_S1024x1536_o0_0_S512x64)
      (extractStridedSlice S512x64 ![0, 512] x slices_S1024x1536_o0_512_S512x64)
      (extractStridedSlice S512x64 ![0, 1024] x slices_S1024x1536_o0_1024_S512x64)⟩,
    ⟨S512x64, soft0 (extractStridedSlice S512x64 ![0, 64] x slices_S1024x1536_o0_64_S512x64)
      (extractStridedSlice S512x64 ![0, 576] x slices_S1024x1536_o0_576_S512x64)
      (extractStridedSlice S512x64 ![0, 1088] x slices_S1024x1536_o0_1088_S512x64)⟩,
    ⟨S512x64, soft0 (extractStridedSlice S512x64 ![0, 128] x slices_S1024x1536_o0_128_S512x64)
      (extractStridedSlice S512x64 ![0, 640] x slices_S1024x1536_o0_640_S512x64)
      (extractStridedSlice S512x64 ![0, 1152] x slices_S1024x1536_o0_1152_S512x64)⟩,
    ⟨S512x64, soft0 (extractStridedSlice S512x64 ![0, 192] x slices_S1024x1536_o0_192_S512x64)
      (extractStridedSlice S512x64 ![0, 704] x slices_S1024x1536_o0_704_S512x64)
      (extractStridedSlice S512x64 ![0, 1216] x slices_S1024x1536_o0_1216_S512x64)⟩,
    ⟨S512x64, soft0 (extractStridedSlice S512x64 ![0, 256] x slices_S1024x1536_o0_256_S512x64)
      (extractStridedSlice S512x64 ![0, 768] x slices_S1024x1536_o0_768_S512x64)
      (extractStridedSlice S512x64 ![0, 1280] x slices_S1024x1536_o0_1280_S512x64)⟩,
    ⟨S512x64, soft0 (extractStridedSlice S512x64 ![0, 320] x slices_S1024x1536_o0_320_S512x64)
      (extractStridedSlice S512x64 ![0, 832] x slices_S1024x1536_o0_832_S512x64)
      (extractStridedSlice S512x64 ![0, 1344] x slices_S1024x1536_o0_1344_S512x64)⟩,
    ⟨S512x64, soft0 (extractStridedSlice S512x64 ![0, 384] x slices_S1024x1536_o0_384_S512x64)
      (extractStridedSlice S512x64 ![0, 896] x slices_S1024x1536_o0_896_S512x64)
      (extractStridedSlice S512x64 ![0, 1408] x slices_S1024x1536_o0_1408_S512x64)⟩,
    ⟨S512x64, soft0 (extractStridedSlice S512x64 ![0, 448] x slices_S1024x1536_o0_448_S512x64)
      (extractStridedSlice S512x64 ![0, 960] x slices_S1024x1536_o0_960_S512x64)
      (extractStridedSlice S512x64 ![0, 1472] x slices_S1024x1536_o0_1472_S512x64)⟩]
    concatenates_S512x64_S512x64_S512x64_S512x64_S512x64_S512x64_S512x64_S512x64_S512x512_d1

/-- The eight heads of the last 512 rows, side by side. -/
def heads1 (x : FVec Ideal S1024x1536 .f32) : FVec Ideal S512x512 .f32 :=
  concatenate S512x512 1 [
    ⟨S512x64, soft1 (extractStridedSlice S512x64 ![512, 0] x slices_S1024x1536_o512_0_S512x64)
      (extractStridedSlice S1024x64 ![0, 512] x slices_S1024x1536_o0_512_S1024x64)
      (extractStridedSlice S1024x64 ![0, 1024] x slices_S1024x1536_o0_1024_S1024x64)⟩,
    ⟨S512x64, soft1 (extractStridedSlice S512x64 ![512, 64] x slices_S1024x1536_o512_64_S512x64)
      (extractStridedSlice S1024x64 ![0, 576] x slices_S1024x1536_o0_576_S1024x64)
      (extractStridedSlice S1024x64 ![0, 1088] x slices_S1024x1536_o0_1088_S1024x64)⟩,
    ⟨S512x64, soft1 (extractStridedSlice S512x64 ![512, 128] x slices_S1024x1536_o512_128_S512x64)
      (extractStridedSlice S1024x64 ![0, 640] x slices_S1024x1536_o0_640_S1024x64)
      (extractStridedSlice S1024x64 ![0, 1152] x slices_S1024x1536_o0_1152_S1024x64)⟩,
    ⟨S512x64, soft1 (extractStridedSlice S512x64 ![512, 192] x slices_S1024x1536_o512_192_S512x64)
      (extractStridedSlice S1024x64 ![0, 704] x slices_S1024x1536_o0_704_S1024x64)
      (extractStridedSlice S1024x64 ![0, 1216] x slices_S1024x1536_o0_1216_S1024x64)⟩,
    ⟨S512x64, soft1 (extractStridedSlice S512x64 ![512, 256] x slices_S1024x1536_o512_256_S512x64)
      (extractStridedSlice S1024x64 ![0, 768] x slices_S1024x1536_o0_768_S1024x64)
      (extractStridedSlice S1024x64 ![0, 1280] x slices_S1024x1536_o0_1280_S1024x64)⟩,
    ⟨S512x64, soft1 (extractStridedSlice S512x64 ![512, 320] x slices_S1024x1536_o512_320_S512x64)
      (extractStridedSlice S1024x64 ![0, 832] x slices_S1024x1536_o0_832_S1024x64)
      (extractStridedSlice S1024x64 ![0, 1344] x slices_S1024x1536_o0_1344_S1024x64)⟩,
    ⟨S512x64, soft1 (extractStridedSlice S512x64 ![512, 384] x slices_S1024x1536_o512_384_S512x64)
      (extractStridedSlice S1024x64 ![0, 896] x slices_S1024x1536_o0_896_S1024x64)
      (extractStridedSlice S1024x64 ![0, 1408] x slices_S1024x1536_o0_1408_S1024x64)⟩,
    ⟨S512x64, soft1 (extractStridedSlice S512x64 ![512, 448] x slices_S1024x1536_o512_448_S512x64)
      (extractStridedSlice S1024x64 ![0, 960] x slices_S1024x1536_o0_960_S1024x64)
      (extractStridedSlice S1024x64 ![0, 1472] x slices_S1024x1536_o0_1472_S1024x64)⟩]
    concatenates_S512x64_S512x64_S512x64_S512x64_S512x64_S512x64_S512x64_S512x64_S512x512_d1

/-- Half of the rows after attention: the rows before it plus the heads through the output weights. -/
def resK (h o : FVec Ideal S512x512 .f32) (wo : FVec Ideal S1x512x512 .f32) : FVec Ideal S512x512 .f32 :=
  addf h (matmul dot_S512x512_S512x512_S512x512_1_0_0_1_n_n none (truncf .bf16 o bitsLt_bf16_f32)
    (truncf .bf16 (shapeCast S512x512 wo shapeCasts_S1x512x512_S512x512 : FVec Ideal S512x512 .f32) bitsLt_bf16_f32)
    (constant S512x512 .f32 0x00000000#32))

/-- All rows after attention. -/
def attnK (h : FVec Ideal S1024x512 .f32) (x : FVec Ideal S1024x1536 .f32) (wo : FVec Ideal S1x512x512 .f32) :
    FVec Ideal S1024x512 .f32 :=
  concatenate S1024x512 0 [
    ⟨S512x512, resK (extractStridedSlice S512x512 ![0, 0] h slices_S1024x512_o0_0_S512x512) (heads0 x) wo⟩,
    ⟨S512x512, resK (extractStridedSlice S512x512 ![512, 0] h slices_S1024x512_o512_0_S512x512) (heads1 x) wo⟩]
    concatenates_S512x512_S512x512_S1024x512_d0

/-- The hidden values of the feed-forward step before the activation. -/
def hidK (a : FVec Ideal S1024x512 .f32) (w : FVec Ideal S1x512x2048 .f32) : FVec Ideal S1024x2048 .f32 :=
  matmul dot_S1024x512_S512x2048_S1024x2048_1_0_0_1_n_n none (truncf .bf16 a bitsLt_bf16_f32)
    (truncf .bf16 (shapeCast S512x2048 w shapeCasts_S1x512x2048_S512x2048 : FVec Ideal S512x2048 .f32) bitsLt_bf16_f32)
    (constant S1024x2048 .f32 0x00000000#32)

/-- The activation. -/
def geluK (u : FVec Ideal S1024x2048 .f32) : FVec Ideal S1024x2048 .f32 :=
  mulf u (mulf (broadcast S1024x2048 (Scalar.ofBits .f32 0x3F000000#32)) (addf (broadcast S1024x2048 (Scalar.ofBits .f32 0x3F800000#32))
    (tanh (mulf (broadcast S1024x2048 (Scalar.ofBits .f32 0x3F4C422A#32))
      (addf u (mulf (broadcast S1024x2048 (Scalar.ofBits .f32 0x3D372713#32)) (mulf u (mulf u u))))))))

/-- The rows after the feed-forward step, from the rows before it and the activated hidden values. -/
def outK (h : FVec Ideal S1024x512 .f32) (u : FVec Ideal S1024x2048 .f32) (w : FVec Ideal S1x2048x512 .f32) :
    FVec Ideal S1024x512 .f32 :=
  addf h (matmul dot_S1024x2048_S2048x512_S1024x512_1_0_0_1_n_n none (truncf .bf16 u bitsLt_bf16_f32)
    (truncf .bf16 (shapeCast S2048x512 w shapeCasts_S1x2048x512_S2048x512 : FVec Ideal S2048x512 .f32) bitsLt_bf16_f32)
    (constant S1024x512 .f32 0x00000000#32))

/-- One layer on all 1024 rows. -/
def layerK (h : FVec Ideal S1024x512 .f32) (g1 : FVec Ideal S1x512 .f32) (wq : FVec Ideal S1x512x1536 .f32)
    (wo : FVec Ideal S1x512x512 .f32) (g2 : FVec Ideal S1x512 .f32) (w1 : FVec Ideal S1x512x2048 .f32)
    (w2 : FVec Ideal S1x2048x512 .f32) : FVec Ideal S1024x512 .f32 :=
  let h' := attnK h (qkvK (lnK h g1) wq) wo
  outK h' (geluK (hidK (lnK h' g2) w1)) w2

/-- The unnormalised output vectors. -/
def vK (h : FVec Ideal S1024x512 .f32) (g : FVec Ideal S1x512 .f32) (w : FVec Ideal S512x13 .f32) : FVec Ideal S1024x13 .f32 :=
  matmul dot_S1024x512_S512x13_S1024x13_1_0_0_1_n_n none (truncf .bf16 (lnK h (shapeCast S1x512 g shapeCasts_S1x512_S1x512)) bitsLt_bf16_f32)
    (truncf .bf16 w bitsLt_bf16_f32) (constant S1024x13 .f32 0x00000000#32)

/-- The block the body stores, from the unnormalised output vectors. -/
def normK (v : FVec Ideal S1024x13 .f32) : FVec Ideal S1x1024x13 .f32 :=
  shapeCast S1x1024x13 (divf v (broadcastTo S1024x13 (maximumf
    (sqrt (shapeCast S1024x1 (multiReduction .add [1] S1024 (mulf v v) 0x00000000#32 reduces_S1024x13_S1024 (.inl rfl) rfl)
      shapeCasts_S1024_S1024x1))
    (broadcast S1024x1 (Scalar.ofBits .f32 0x2B8CBCCC#32))) broadcasts_S1024x1_S1024x13) : FVec Ideal S1024x13 .f32)
    shapeCasts_S1024x13_S1x1024x13

section Payloads

variable (x0 : Vec Ideal S1x1024x512 .f32) (x1 : Vec Ideal S1024x512 .f32) (x2 : Vec Ideal S2x512x1536 .f32)
  (x3 : Vec Ideal S2x512x512 .f32) (x4 x5 : Vec Ideal S2x512 .f32) (x6 : Vec Ideal S2x512x2048 .f32)
  (x7 : Vec Ideal S2x2048x512 .f32) (x8 : Vec Ideal S1x512 .f32) (x9 : Vec Ideal S512x13 .f32)

/-- The projections of the first layer. -/
theorem pay95 : k0_pay95 x0 x1 x2 x3 x4 x5 x6 x7 x8 x9
    = qkvK (lnK (k0_pay93 x0 x1 x2 x3 x4 x5 x6 x7 x8 x9) (View.ld x4 r0_2)) (View.ld x2 r0_3) := rfl

/-- The first half of the rows after the first layer's attention. -/
theorem pay96 : k0_pay96 x0 x1 x2 x3 x4 x5 x6 x7 x8 x9
    = resK (extractStridedSlice S512x512 ![0, 0] (k0_pay93 x0 x1 x2 x3 x4 x5 x6 x7 x8 x9) slices_S1024x512_o0_0_S512x512)
        (heads0 (k0_pay95 x0 x1 x2 x3 x4 x5 x6 x7 x8 x9)) (View.ld x3 r0_4) := rfl

/-- The heads of the second half in the first layer. -/
theorem pay97 : k0_pay97 x0 x1 x2 x3 x4 x5 x6 x7 x8 x9 = heads1 (k0_pay95 x0 x1 x2 x3 x4 x5 x6 x7 x8 x9) := rfl

/-- All rows after the first layer's attention. -/
theorem pay99 : k0_pay99 x0 x1 x2 x3 x4 x5 x6 x7 x8 x9
    = attnK (k0_pay93 x0 x1 x2 x3 x4 x5 x6 x7 x8 x9) (k0_pay95 x0 x1 x2 x3 x4 x5 x6 x7 x8 x9) (View.ld x3 r0_4) := by
  unfold k0_pay99; rw [pay96, pay97]; rfl

/-- The hidden values of the first layer. -/
theorem pay100 : k0_pay100 x0 x1 x2 x3 x4 x5 x6 x7 x8 x9
    = hidK (lnK (k0_pay99 x0 x1 x2 x3 x4 x5 x6 x7 x8 x9) (View.ld x5 r0_2)) (View.ld x6 r0_5) := rfl

/-- The rows after the first layer. -/
theorem pay103 : k0_pay103 x0 x1 x2 x3 x4 x5 x6 x7 x8 x9
    = outK (k0_pay99 x0 x1 x2 x3 x4 x5 x6 x7 x8 x9) (geluK (k0_pay100 x0 x1 x2 x3 x4 x5 x6 x7 x8 x9)) (View.ld x7 r0_6) := rfl

/-- The projections of the second layer. -/
theorem pay104 : k0_pay104 x0 x1 x2 x3 x4 x5 x6 x7 x8 x9
    = qkvK (lnK (k0_pay103 x0 x1 x2 x3 x4 x5 x6 x7 x8 x9) (View.ld x4 r0_7)) (View.ld x2 r0_8) := rfl

/-- The first half of the rows after the second layer's attention. -/
theorem pay105 : k0_pay105 x0 x1 x2 x3 x4 x5 x6 x7 x8 x9
    = resK (extractStridedSlice S512x512 ![0, 0] (k0_pay103 x0 x1 x2 x3 x4 x5 x6 x7 x8 x9) slices_S1024x512_o0_0_S512x512)
        (heads0 (k0_pay104 x0 x1 x2 x3 x4 x5 x6 x7 x8 x9)) (View.ld x3 r0_9) := rfl

/-- All rows after the second layer's attention. -/
theorem pay114 : k0_pay114 x0 x1 x2 x3 x4 x5 x6 x7 x8 x9
    = attnK (k0_pay103 x0 x1 x2 x3 x4 x5 x6 x7 x8 x9) (k0_pay104 x0 x1 x2 x3 x4 x5 x6 x7 x8 x9) (View.ld x3 r0_9) := by
  unfold k0_pay114; rw [pay105]; rfl

/-- The hidden values of the second layer. -/
theorem pay115 : k0_pay115 x0 x1 x2 x3 x4 x5 x6 x7 x8 x9
    = hidK (lnK (k0_pay114 x0 x1 x2 x3 x4 x5 x6 x7 x8 x9) (View.ld x5 r0_7)) (View.ld x6 r0_10) := rfl

/-- The block the body stores, from its input blocks. -/
def bodyK : FVec Ideal S1x1024x13 .f32 :=
  normK (vK (layerK (layerK (k0_pay2 (View.ld x0 r0_0) (View.ld x1 r0_1))
    (View.ld x4 r0_2) (View.ld x2 r0_3) (View.ld x3 r0_4) (View.ld x5 r0_2) (View.ld x6 r0_5) (View.ld x7 r0_6))
    (View.ld x4 r0_7) (View.ld x2 r0_8) (View.ld x3 r0_9) (View.ld x5 r0_7) (View.ld x6 r0_10) (View.ld x7 r0_11))
    (View.ld x8 r0_12) (View.ld x9 r0_13))

/-- The last store's value in the steps of the model, over the values named before it. -/
theorem payOut : k0_pay1 (k0_pay90 (k0_pay114 x0 x1 x2 x3 x4 x5 x6 x7 x8 x9) (k0_pay115 x0 x1 x2 x3 x4 x5 x6 x7 x8 x9)
      (k0_pay116 x0 x1 x2 x3 x4 x5 x6 x7 x8 x9) (View.ld x7 r0_11) (View.ld x8 r0_12) (View.ld x9 r0_13))
    (k0_pay91 (k0_pay114 x0 x1 x2 x3 x4 x5 x6 x7 x8 x9) (k0_pay115 x0 x1 x2 x3 x4 x5 x6 x7 x8 x9)
      (k0_pay116 x0 x1 x2 x3 x4 x5 x6 x7 x8 x9) (View.ld x7 r0_11) (View.ld x8 r0_12) (View.ld x9 r0_13)) k0_pay92
    = normK (vK (outK (k0_pay114 x0 x1 x2 x3 x4 x5 x6 x7 x8 x9) (geluK (k0_pay115 x0 x1 x2 x3 x4 x5 x6 x7 x8 x9))
      (View.ld x7 r0_11)) (View.ld x8 r0_12) (View.ld x9 r0_13)) := rfl

/-- The output block is the model of the input blocks. -/
theorem out_eq : out0_10 x0 x1 x2 x3 x4 x5 x6 x7 x8 x9
    = View.canon [⟨r0_14, bodyK x0 x1 x2 x3 x4 x5 x6 x7 x8 x9⟩] := by
  unfold out0_10
  rw [payOut, pay115, pay114, pay104, pay103, pay100, pay99, pay95]
  rfl

end Payloads

end Cert.KernelIdeal.Hand
end
-- ==== Proof.Spec.lean ====
/- The prior row by row over the extended reals: layernorm, masked attention, feed-forward, normalisation, and what is
   finite in them. -/
module

public import Idealize.ShloMosaic.PureOps.Ideal
public import Idealize.ShloMosaic.PureOps.Ideal.Laws
public import Idealize.ShloMosaic.Lib.IdealHost

@[expose] public section

set_option maxRecDepth 16384

noncomputable section

namespace Cert.Spec

open Idealize.ShloMosaic

/-- The value is a real number. -/
def IsReal (x : EReal) : Prop := ∃ a : ℝ, x = (a : EReal)

/-- A value below ⊤ and above ⊥ is real. -/
theorem isReal_iff (x : EReal) : IsReal x ↔ x ≠ ⊤ ∧ x ≠ ⊥ := by
  constructor
  · rintro ⟨a, rfl⟩; exact ⟨EReal.coe_ne_top a, EReal.coe_ne_bot a⟩
  · rintro ⟨h1, h2⟩; exact ⟨x.toReal, (EReal.coe_toReal h1 h2).symm⟩

/-- Zero is real. -/
theorem IsReal.zero : IsReal 0 := ⟨0, rfl⟩
/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A difference of reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- A finite sum of reals is real. -/
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

/-- The literal 512. -/
theorem c512 : Ideal.ofBits .f32 0x44000000#32 = ((512 : ℝ) : EReal) := by
  simp [Ideal.ofBits, Ideal.ieee, -EReal.coe_mul]; norm_num
/-- The literal 64. -/
theorem c64 : Ideal.ofBits .f32 0x42800000#32 = ((64 : ℝ) : EReal) := by
  simp [Ideal.ofBits, Ideal.ieee, -EReal.coe_mul]; norm_num
/-- The literal 4092. -/
theorem c4092 : Ideal.ofBits .f32 0x457FC000#32 = ((4092 : ℝ) : EReal) := by
  simp [Ideal.ofBits, Ideal.ieee, -EReal.coe_mul]; norm_num
/-- The layernorm's small constant is a positive real. -/
theorem cEps : ∃ e : ℝ, 0 < e ∧ Ideal.ofBits .f32 0x3727C5AC#32 = (e : EReal) := by
  refine ⟨_, ?_, by simp [Ideal.ofBits, Ideal.ieee, -EReal.coe_mul]; rfl⟩; norm_num
/-- The normalisation's small constant is a positive real. -/
theorem cTiny : ∃ e : ℝ, 0 < e ∧ Ideal.ofBits .f32 0x2B8CBCCC#32 = (e : EReal) := by
  refine ⟨_, ?_, by simp [Ideal.ofBits, Ideal.ieee, -EReal.coe_mul]; rfl⟩; norm_num
/-- The literal −∞. -/
theorem cNegInf : Ideal.ofBits .f32 0xFF800000#32 = ⊥ := by
  simp [Ideal.ofBits, Ideal.ieee]
/-- The literal +∞. -/
theorem cInf : Ideal.ofBits .f32 0x7F800000#32 = ⊤ := by
  simp [Ideal.ofBits, Ideal.ieee]

/-- The mean of a row. -/
def mean (x : Fin 512 → EReal) : EReal := Ideal.div (∑ k, x k) (Ideal.ofBits .f32 0x44000000#32)

/-- The layernorm of a row before the scale. -/
def lnCore (x : Fin 512 → EReal) (j : Fin 512) : EReal :=
  Ideal.div (x j - mean x) (Ideal.sqrt (Ideal.div (∑ k, (x k - mean x) * (x k - mean x))
    (Ideal.ofBits .f32 0x44000000#32) + Ideal.ofBits .f32 0x3727C5AC#32))

/-- The layernorm of a row. -/
def lnRow (x g : Fin 512 → EReal) (j : Fin 512) : EReal := lnCore x j * g j

/-- A row through a matrix. -/
def lin {n k : ℕ} (x : Fin n → EReal) (w : Fin n → Fin k → EReal) (j : Fin k) : EReal := ∑ i, x i * w i j

/-- The scaled score of a query and a key. -/
def score (q k : Fin 64 → EReal) : EReal :=
  Ideal.div (∑ d, q d * k d) (Ideal.sqrt (Ideal.ofBits .f32 0x42800000#32))

/-- The softmax of `w` applied to `v`. -/
def attn {N : ℕ} (w v : Fin N → EReal) : EReal :=
  let m := max (Ideal.ofBits .f32 0xFF800000#32) (Finset.univ.fold max (Ideal.ofBits .f32 0xFF800000#32) w)
  ∑ k, Ideal.div (Ideal.exp (w k - m)) (∑ k, Ideal.exp (w k - m)) * v k

/-- Row `r`'s attention over the rows up to `r`. -/
def attnRow (r : ℕ) (s v : ℕ → EReal) : EReal := attn (N := r + 1) (fun k => s k) (fun k => v k)

/-- The exponential is nonnegative. -/
theorem exp_nonneg (x : EReal) : 0 ≤ Ideal.exp x := by
  induction x using EReal.rec with
  | bot => simp
  | top => simp
  | coe a => rw [Ideal.exp_coe]; exact_mod_cast (Real.exp_pos a).le

/-- The exponential of a real is positive. -/
theorem exp_pos {x : EReal} (h : IsReal x) : 0 < Ideal.exp x := by
  obtain ⟨a, rfl⟩ := h; rw [Ideal.exp_coe]; exact_mod_cast Real.exp_pos a

/-- A sum over the first `N` rows whose terms vanish after row `r`. -/
theorem sum_trunc {N r : ℕ} (hr : r < N) (f : Fin N → EReal) (g : ℕ → EReal)
    (h : ∀ k : Fin N, f k = if (k : ℕ) ≤ r then g k else 0) : ∑ k, f k = ∑ k : Fin (r + 1), g k := by
  rw [Fin.sum_univ_eq_sum_range, Finset.sum_congr rfl (fun k _ => h k),
    Fin.sum_univ_eq_sum_range (fun k => if k ≤ r then g k else 0) N, Finset.sum_ite, Finset.sum_const_zero, add_zero]
  refine Finset.sum_congr ?_ fun _ _ => rfl
  ext k; simp only [Finset.mem_filter, Finset.mem_range]; omega

/-- The row maximum of real scores is real. -/
theorem max_real {N : ℕ} (w : Fin N → EReal) (i : Fin N) (hi : IsReal (w i)) (h : ∀ k, w k ≠ ⊤) :
    IsReal (max ⊥ (Finset.univ.fold max ⊥ w)) := by
  rw [isReal_iff]
  constructor
  · refine ne_of_lt (max_lt bot_lt_top ((Finset.fold_max_lt _).2 ⟨bot_lt_top, fun k _ => lt_top_iff_ne_top.2 (h k)⟩))
  · refine ne_of_gt (lt_of_lt_of_le ?_ (le_trans ((Finset.le_fold_max (w i)).2 (.inr ⟨i, Finset.mem_univ i, le_rfl⟩)) (le_max_right _ _)))
    exact bot_lt_iff_ne_bot.2 ((isReal_iff _).1 hi).2

/-- Attention over `N` rows with the rows after `r` at −∞ is the attention over the rows up to `r`. -/
theorem attn_trunc {N r : ℕ} (hr : r < N) (w v : Fin N → EReal) (s vv : ℕ → EReal) (hs : ∀ k ≤ r, IsReal (s k))
    (hw : ∀ k : Fin N, w k = if (k : ℕ) ≤ r then s k else ⊥) (hv : ∀ k : Fin N, (k : ℕ) ≤ r → v k = vv k) :
    attn w v = attnRow r s vv := by
  have hm : Finset.univ.fold max ⊥ w = Finset.univ.fold max ⊥ (fun k : Fin (r + 1) => s k) := by
    apply le_antisymm
    · refine (Finset.fold_max_le _).2 ⟨bot_le, fun k _ => ?_⟩
      rw [hw]
      split_ifs with hk
      · exact (Finset.le_fold_max _).2 (.inr ⟨⟨k, by omega⟩, Finset.mem_univ _, le_rfl⟩)
      · exact bot_le
    · refine (Finset.fold_max_le _).2 ⟨bot_le, fun k _ => ?_⟩
      refine (Finset.le_fold_max _).2 (.inr ⟨⟨k, by omega⟩, Finset.mem_univ _, ?_⟩)
      rw [hw, if_pos (by simpa using Nat.le_of_lt_succ k.2)]
  have hM := max_real w ⟨r, hr⟩ (by rw [hw, if_pos le_rfl]; exact hs r le_rfl)
    (fun k => by rw [hw]; split_ifs with hk; exacts [((isReal_iff _).1 (hs _ hk)).1, bot_ne_top])
  unfold attnRow attn
  simp only [cNegInf]
  rw [← hm]
  generalize max ⊥ (Finset.univ.fold max ⊥ w) = M at hM
  have he : ∀ k : Fin N, Ideal.exp (w k - M) = if (k : ℕ) ≤ r then Ideal.exp (s k - M) else 0 := by
    intro k; rw [hw]; split_ifs
    · rfl
    · rw [EReal.bot_sub, Ideal.exp_bot]
  have hS := sum_trunc hr (fun k => Ideal.exp (w k - M)) (fun k => Ideal.exp (s k - M)) he
  rw [hS]
  have hpos : 0 < ∑ k : Fin (r + 1), Ideal.exp (s k - M) :=
    lt_of_lt_of_le (exp_pos ((hs r le_rfl).sub hM))
      (Finset.single_le_sum (f := fun k : Fin (r + 1) => Ideal.exp (s k - M)) (fun _ _ => exp_nonneg _)
        (Finset.mem_univ (Fin.last r)))
  refine sum_trunc hr _ (fun k => Ideal.div (Ideal.exp (s k - M)) (∑ k : Fin (r + 1), Ideal.exp (s k - M)) * vv k) fun k => ?_
  rw [he]
  split_ifs with hk
  · rw [hv k hk]
  · rw [Ideal.div, if_neg hpos.ne', zero_mul, zero_mul]

/-- A quotient whose divisor is positive is real when the dividend is real, and when the divisor is infinite. -/
theorem div_real {x y : EReal} (hy : 0 < y) (h : IsReal x ∨ y = ⊤) : IsReal (Ideal.div x y) := by
  rw [Ideal.div, if_neg hy.ne']
  rcases h with h | rfl
  · refine h.mul ?_
    induction y using EReal.rec with
    | bot => simp at hy
    | top => rw [EReal.inv_top]; exact IsReal.zero
    | coe a => rw [← EReal.coe_inv]; exact ⟨_, rfl⟩
  · rw [EReal.inv_top, mul_zero]; exact IsReal.zero

/-- A square is nonnegative. -/
theorem sq_nonneg (x : EReal) : 0 ≤ x * x := by
  induction x using EReal.rec with
  | bot => simp
  | top => simp
  | coe a => rw [← EReal.coe_mul]; exact_mod_cast mul_self_nonneg a

/-- A sum of squares is infinite as soon as one entry is. -/
theorem sum_sq_top {n : ℕ} (y : Fin n → EReal) (i : Fin n) (h : ¬ IsReal (y i)) : ∑ k, y k * y k = ⊤ := by
  have h1 : y i * y i = ⊤ := by
    rw [isReal_iff, not_and_or, not_not, not_not] at h
    rcases h with h | h <;> rw [h] <;> simp
  exact top_le_iff.1 (h1 ▸ Finset.single_le_sum (f := fun k => y k * y k) (fun k _ => sq_nonneg (y k)) (Finset.mem_univ i))

/-- The root of a positive value is positive. -/
theorem sqrt_pos {x : EReal} (h : 0 < x) : 0 < Ideal.sqrt x := by
  induction x using EReal.rec with
  | bot => simp at h
  | top => simp
  | coe a =>
    have ha : 0 < a := by exact_mod_cast h
    rw [Ideal.sqrt_coe, if_neg ha.le.not_gt]; exact_mod_cast Real.sqrt_pos.2 ha

/-- The layernorm before the scale is always real. -/
theorem lnCore_real (x : Fin 512 → EReal) (j : Fin 512) : IsReal (lnCore x j) := by
  obtain ⟨e, he, hee⟩ := cEps
  unfold lnCore
  generalize mean x = μ
  rw [c512, hee, Ideal.div_coe (by norm_num : (512 : ℝ) ≠ 0)]
  by_cases h : IsReal (x j - μ)
  · refine div_real (sqrt_pos (lt_of_lt_of_le (b := (e : EReal)) (by exact_mod_cast he) (le_add_of_nonneg_left ?_))) (.inl h)
    refine mul_nonneg (Finset.sum_nonneg fun k _ => sq_nonneg _) ?_
    exact_mod_cast (by norm_num : (0 : ℝ) ≤ 1 / 512)
  · rw [sum_sq_top (fun k => x k - μ) j h, EReal.top_mul_coe_of_pos (by norm_num), EReal.top_add_coe, Ideal.sqrt_top]
    exact div_real EReal.zero_lt_top (.inr rfl)

/-- A scaled layernorm is real when the scale is. -/
theorem lnRow_real (x g : Fin 512 → EReal) (hg : ∀ j, IsReal (g j)) (j : Fin 512) : IsReal (lnRow x g j) :=
  (lnCore_real x j).mul (hg j)

/-- A real row through a matrix is real at a real column. -/
theorem lin_real {n k : ℕ} (x : Fin n → EReal) (w : Fin n → Fin k → EReal) (hx : ∀ i, IsReal (x i))
    (j : Fin k) (hw : ∀ i, IsReal (w i j)) : IsReal (lin x w j) :=
  IsReal.sum _ _ fun i => (hx i).mul (hw i)

/-- The score of a real query and a real key is real. -/
theorem score_real (q k : Fin 64 → EReal) (hq : ∀ d, IsReal (q d)) (hk : ∀ d, IsReal (k d)) : IsReal (score q k) := by
  refine div_real (sqrt_pos ?_) (.inl (IsReal.sum _ _ fun d => (hq d).mul (hk d)))
  rw [c64]; exact_mod_cast (by norm_num : (0 : ℝ) < 64)

/-- A row over its length. -/
def normRow {n : ℕ} (u : Fin n → EReal) (j : Fin n) : EReal :=
  Ideal.div (u j) (max (Ideal.sqrt (∑ k, u k * u k)) (Ideal.ofBits .f32 0x2B8CBCCC#32))

/-- A row over its length is always real. -/
theorem normRow_real {n : ℕ} (u : Fin n → EReal) (j : Fin n) : IsReal (normRow u j) := by
  obtain ⟨e, he, hee⟩ := cTiny
  unfold normRow
  have hp : (0 : EReal) < max (Ideal.sqrt (∑ k, u k * u k)) (Ideal.ofBits .f32 0x2B8CBCCC#32) :=
    lt_max_of_lt_right (by rw [hee]; exact_mod_cast he)
  refine div_real hp ?_
  by_cases h : IsReal (u j)
  · exact .inl h
  · right; rw [sum_sq_top u j h, Ideal.sqrt_top, top_sup_eq]

/-- The activation, in its tanh form. -/
def gelu (u : EReal) : EReal :=
  u * (Ideal.ofBits .f32 0x3F000000#32 * (1 + Ideal.tanh (Ideal.ofBits .f32 0x3F4C422A#32 *
    (u + Ideal.ofBits .f32 0x3D372713#32 * (u * (u * u))))))

/-- The weights of one layer. -/
structure Layer where
  g1 : Fin 512 → EReal
  wq : Fin 512 → Fin 1536 → EReal
  wo : Fin 512 → Fin 512 → EReal
  g2 : Fin 512 → EReal
  w1 : Fin 512 → Fin 2048 → EReal
  w2 : Fin 2048 → Fin 512 → EReal

/-- The queries, keys and values of row `t`. -/
def xRow (p : Layer) (H : ℕ → Fin 512 → EReal) (t : ℕ) : Fin 1536 → EReal := lin (lnRow (H t) p.g1) p.wq

/-- The query of head `j / 64` in a row of projections. -/
def qOf (x : Fin 1536 → EReal) (j : Fin 512) (d : Fin 64) : EReal := x ⟨64 * (j / 64) + d, by omega⟩
/-- The key of head `j / 64` in a row of projections. -/
def kOf (x : Fin 1536 → EReal) (j : Fin 512) (d : Fin 64) : EReal := x ⟨512 + (64 * (j / 64) + d), by omega⟩
/-- The value of head `j / 64` at column `j` in a row of projections. -/
def vOf (x : Fin 1536 → EReal) (j : Fin 512) : EReal := x ⟨1024 + j, by omega⟩

/-- Row `t` of the heads, side by side. -/
def oRow (X : ℕ → Fin 1536 → EReal) (t : ℕ) (j : Fin 512) : EReal :=
  attnRow t (fun k => score (qOf (X t) j) (kOf (X k) j)) (fun k => vOf (X k) j)

/-- Row `t` after attention. -/
def hRow (p : Layer) (H : ℕ → Fin 512 → EReal) (t : ℕ) (j : Fin 512) : EReal :=
  H t j + lin (oRow (xRow p H) t) p.wo j

/-- Row `t` after the layer. -/
def layerRow (p : Layer) (H : ℕ → Fin 512 → EReal) (t : ℕ) (j : Fin 512) : EReal :=
  hRow p H t j + lin (fun i => gelu (lin (lnRow (hRow p H t) p.g2) p.w1 i)) p.w2 j

/-- The scores are real where the first scale and the weights of the queries and the keys are. -/
theorem scores_real (p : Layer) (hg : ∀ j, IsReal (p.g1 j)) (hw : ∀ i (j : Fin 1536), (j : ℕ) < 1024 → IsReal (p.wq i j)) (H : ℕ → Fin 512 → EReal)
    (t k : ℕ) (j : Fin 512) : IsReal (score (qOf (xRow p H t) j) (kOf (xRow p H k) j)) :=
  score_real _ _ (fun d => lin_real _ _ (lnRow_real _ _ hg) _ fun i => hw i _ (show 64 * ((j : ℕ) / 64) + (d : ℕ) < 1024 by omega))
    (fun d => lin_real _ _ (lnRow_real _ _ hg) _ fun i => hw i _ (show 512 + (64 * ((j : ℕ) / 64) + (d : ℕ)) < 1024 by omega))

end Cert.Spec
-- ==== Proof.KPoint.lean ====
/- The prior's body read row by row. -/
module

public import proofs.«01_k».proof.Proof.KBody
public import proofs.«01_k».proof.Proof.Spec
public import Idealize.ShloMosaic.Lib.WordCmp

@[expose] public section

set_option maxRecDepth 16384

noncomputable section

namespace Cert.KernelIdeal.Hand

open Idealize.ShloMosaic Idealize.ShloMosaic.TcCoe
open Cert.KernelIdeal.Gen
open Cert.Spec

/-- A row of the layernorm. -/
theorem lnK_apply (h : FVec Ideal S1024x512 .f32) (g : FVec Ideal S1x512 .f32) (r : Fin 1024) (j : Fin 512) :
    lnK h g (ix2 r j) = lnRow (fun k => h (ix2 r k)) (fun k => g (ix2 0 k)) j := by
  pointwise [lnK]; rfl

/-- A row of the projections. -/
theorem qkvK_apply (a : FVec Ideal S1024x512 .f32) (w : FVec Ideal S1x512x1536 .f32) (r : Fin 1024) (j : Fin 1536) :
    qkvK a w (ix2 r j) = lin (fun k => a (ix2 r k)) (fun i j => w (ix3 0 i j)) j := by
  pointwise [qkvK]; rfl

/-- A select on an index comparison is an if. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, Scalar.select]
  by_cases h : b ≤ a <;> simp [h]

/-- The value of the mask's name. -/
theorem mask_val : (Named.named κ "mask" 3463342888#32 : Ideal .f32) = (⊥ : EReal) :=
  IdealRules.named_const.ideal_named_scalar _ _ _ _ rfl

/-- A masked entry of the first 512 rows' scores. -/
theorem score0_apply (q k : FVec Ideal S512x64 .f32) (r c : Fin 512) :
    score0 q k (ix2 r c) = if (c : ℕ) ≤ r then score (fun d => q (ix2 r d)) (fun d => k (ix2 c d)) else ⊥ := by
  pointwise [score0, k0_pay3]
  rw [select_sge _ _ (by omega) (by omega)]
  split_ifs
  · rfl
  · exact mask_val

/-- A masked entry of the last 512 rows' scores. -/
theorem score1_apply (q : FVec Ideal S512x64 .f32) (k : FVec Ideal S1024x64 .f32) (r : Fin 512) (c : Fin 1024) :
    score1 q k (ix2 r c) = if (c : ℕ) ≤ 512 + r then score (fun d => q (ix2 r d)) (fun d => k (ix2 c d)) else ⊥ := by
  pointwise [score1, k0_pay3]
  by_cases hc : (c : ℕ) < 512
  · rw [dif_pos hc, if_pos (by omega)]; rfl
  · have hk : (⟨512 + ((c : ℕ) - 512), by omega⟩ : Fin 1024) = c := Fin.ext (by simp only []; omega)
    rw [dif_neg hc, select_sge _ _ (by omega) (by omega), hk]
    by_cases h : (c : ℕ) ≤ 512 + r
    · rw [if_pos h, if_pos (by omega)]; rfl
    · rw [if_neg h, if_neg (by omega)]; exact mask_val

/-- A row of the softmax times the values, on 512 keys. -/
theorem smx0_apply (w : FVec Ideal S512x512 .f32) (v : FVec Ideal S512x64 .f32) (r : Fin 512) (d : Fin 64) :
    smx0 w v (ix2 r d) = attn (fun k => w (ix2 r k)) (fun k => v (ix2 k d)) := by
  pointwise [smx0]; rfl

/-- A row of the softmax times the values, on 1024 keys. -/
theorem smx1_apply (w : FVec Ideal S512x1024 .f32) (v : FVec Ideal S1024x64 .f32) (r : Fin 512) (d : Fin 64) :
    smx1 w v (ix2 r d) = attn (fun k => w (ix2 r k)) (fun k => v (ix2 k d)) := by
  pointwise [smx1]; rfl

/-- A row of the output projection. -/
theorem resK_apply (h o : FVec Ideal S512x512 .f32) (wo : FVec Ideal S1x512x512 .f32) (r : Fin 512) (j : Fin 512) :
    resK h o wo (ix2 r j) = h (ix2 r j) + lin (fun k => o (ix2 r k)) (fun i j => wo (ix3 0 i j)) j := by
  pointwise [resK]; rfl

/-- A row of the hidden layer. -/
theorem hidK_apply (a : FVec Ideal S1024x512 .f32) (w : FVec Ideal S1x512x2048 .f32) (r : Fin 1024) (j : Fin 2048) :
    hidK a w (ix2 r j) = lin (fun k => a (ix2 r k)) (fun i j => w (ix3 0 i j)) j := by
  pointwise [hidK]; rfl

/-- An entry of the activation. -/
theorem geluK_apply (u : FVec Ideal S1024x2048 .f32) (r : Fin 1024) (j : Fin 2048) :
    geluK u (ix2 r j) = gelu (u (ix2 r j)) := by
  pointwise [geluK]; rfl

/-- A row of the second feed-forward step. -/
theorem outK_apply (h : FVec Ideal S1024x512 .f32) (u : FVec Ideal S1024x2048 .f32) (w : FVec Ideal S1x2048x512 .f32)
    (r : Fin 1024) (j : Fin 512) :
    outK h u w (ix2 r j) = h (ix2 r j) + lin (fun k => u (ix2 r k)) (fun i j => w (ix3 0 i j)) j := by
  pointwise [outK]; rfl

/-- A row of the output vectors. -/
theorem vK_apply (h : FVec Ideal S1024x512 .f32) (g : FVec Ideal S1x512 .f32) (w : FVec Ideal S512x13 .f32)
    (r : Fin 1024) (j : Fin 13) :
    vK h g w (ix2 r j) = lin (lnRow (fun k => h (ix2 r k)) (fun k => g (ix2 0 k))) (fun i j => w (ix2 i j)) j := by
  pointwise [vK]; simp only [lnK_apply]; rfl

/-- A row of the stored block. -/
theorem normK_apply (v : FVec Ideal S1024x13 .f32) (r : Fin 1024) (j : Fin 13) :
    normK v (ix3 0 r j) = normRow (fun k => v (ix2 r k)) j := by
  pointwise [normK]; rfl

/-- The first half of the rows after attention. -/
theorem attnK_lo (h : FVec Ideal S1024x512 .f32) (x : FVec Ideal S1024x1536 .f32) (wo : FVec Ideal S1x512x512 .f32)
    (r : Fin 512) (j : Fin 512) :
    attnK h x wo (ix2 ⟨r, by omega⟩ j)
      = h (ix2 ⟨r, by omega⟩ j) + lin (fun k => heads0 x (ix2 r k)) (fun i j => wo (ix3 0 i j)) j := by
  pointwise [attnK]
  rw [resK_apply]
  pointwise []

/-- The second half of the rows after attention. -/
theorem attnK_hi (h : FVec Ideal S1024x512 .f32) (x : FVec Ideal S1024x1536 .f32) (wo : FVec Ideal S1x512x512 .f32)
    (r : Fin 512) (j : Fin 512) :
    attnK h x wo (ix2 ⟨512 + r, by omega⟩ j)
      = h (ix2 ⟨512 + r, by omega⟩ j) + lin (fun k => heads1 x (ix2 r k)) (fun i j => wo (ix3 0 i j)) j := by
  pointwise [attnK]
  rw [resK_apply]
  pointwise []

/-- One head of a row among the first 512 rows. -/
theorem soft0_row (q k v : FVec Ideal S512x64 .f32) (X : ℕ → Fin 1536 → EReal) (r : Fin 512) (j : Fin 512) (d : Fin 64)
    (hs : ∀ t k, IsReal (score (qOf (X t) j) (kOf (X k) j)))
    (hq : ∀ d, q (ix2 r d) = qOf (X r) j d) (hk : ∀ (c : Fin 512) d, k (ix2 c d) = kOf (X c) j d)
    (hv : ∀ c : Fin 512, v (ix2 c d) = vOf (X c) j) : soft0 q k v (ix2 r d) = oRow X r j := by
  unfold soft0
  rw [smx0_apply]
  refine attn_trunc r.2 _ _ _ _ (fun k _ => hs r k) (fun c => ?_) fun c _ => hv c
  rw [score0_apply]
  simp only [hq, hk]

/-- One head of a row among the last 512 rows. -/
theorem soft1_row (q : FVec Ideal S512x64 .f32) (k v : FVec Ideal S1024x64 .f32) (X : ℕ → Fin 1536 → EReal) (r : Fin 512)
    (j : Fin 512) (d : Fin 64) (hs : ∀ t k, IsReal (score (qOf (X t) j) (kOf (X k) j)))
    (hq : ∀ d, q (ix2 r d) = qOf (X (512 + r)) j d) (hk : ∀ (c : Fin 1024) d, k (ix2 c d) = kOf (X c) j d)
    (hv : ∀ c : Fin 1024, v (ix2 c d) = vOf (X c) j) : soft1 q k v (ix2 r d) = oRow X (512 + r) j := by
  unfold soft1
  rw [smx1_apply]
  refine attn_trunc (by omega : 512 + (r : ℕ) < 1024) _ _ _ _ (fun k _ => hs _ k) (fun c => ?_) fun c _ => hv c
  rw [score1_apply]
  simp only [hq, hk]

/-- The heads of a row among the first 512 rows. -/
theorem heads0_row (x : FVec Ideal S1024x1536 .f32) (X : ℕ → Fin 1536 → EReal)
    (hX : ∀ (r : Fin 1024) c, x (ix2 r c) = X r c)
    (hs : ∀ j t k, IsReal (score (qOf (X t) j) (kOf (X k) j))) (r j : Fin 512) :
    heads0 x (ix2 r j) = oRow X r j := by
  pointwise [heads0]
  split_ifs <;> refine soft0_row _ _ _ X r j _ (hs j) (fun d => ?_) (fun c d => ?_) (fun c => ?_) <;>
    pointwise [] <;> rw [hX] <;> refine congrArg (X _) (Fin.ext ?_) <;> simp only [] <;> omega

/-- The heads of a row among the last 512 rows. -/
theorem heads1_row (x : FVec Ideal S1024x1536 .f32) (X : ℕ → Fin 1536 → EReal)
    (hX : ∀ (r : Fin 1024) c, x (ix2 r c) = X r c)
    (hs : ∀ j t k, IsReal (score (qOf (X t) j) (kOf (X k) j))) (r j : Fin 512) :
    heads1 x (ix2 r j) = oRow X (512 + r) j := by
  pointwise [heads1]
  split_ifs <;> refine soft1_row _ _ _ X r j _ (hs j) (fun d => ?_) (fun c d => ?_) (fun c => ?_) <;>
    pointwise [] <;> rw [hX] <;> refine congrArg (X _) (Fin.ext ?_) <;> simp only [] <;> omega

/-- A layer's weights, read from the kernel's blocks. -/
def lay (g1 : FVec Ideal S1x512 .f32) (wq : FVec Ideal S1x512x1536 .f32)
    (wo : FVec Ideal S1x512x512 .f32) (g2 : FVec Ideal S1x512 .f32) (w1 : FVec Ideal S1x512x2048 .f32)
    (w2 : FVec Ideal S1x2048x512 .f32) : Layer where
  g1 j := g1 (ix2 0 j)
  wq i j := wq (ix3 0 i j)
  wo i j := wo (ix3 0 i j)
  g2 j := g2 (ix2 0 j)
  w1 i j := w1 (ix3 0 i j)
  w2 i j := w2 (ix3 0 i j)

/-- The rows after a layer are the model's rows. -/
theorem layerK_row (h : FVec Ideal S1024x512 .f32) (g1 : FVec Ideal S1x512 .f32) (wq : FVec Ideal S1x512x1536 .f32)
    (wo : FVec Ideal S1x512x512 .f32) (g2 : FVec Ideal S1x512 .f32) (w1 : FVec Ideal S1x512x2048 .f32)
    (w2 : FVec Ideal S1x2048x512 .f32) (hg : ∀ j, IsReal (g1 (ix2 0 j))) (hw : ∀ i (j : Fin 1536), (j : ℕ) < 1024 → IsReal (wq (ix3 0 i j)))
    (H : ℕ → Fin 512 → EReal) (hH : ∀ (r : Fin 1024) j, h (ix2 r j) = H r j) (r : Fin 1024) (j : Fin 512) :
    layerK h g1 wq wo g2 w1 w2 (ix2 r j) = layerRow (lay g1 wq wo g2 w1 w2) H r j := by
  have hx : ∀ (r : Fin 1024) c, qkvK (lnK h g1) wq (ix2 r c) = xRow (lay g1 wq wo g2 w1 w2) H r c := by
    intro r c
    rw [qkvK_apply]
    simp only [lnK_apply, hH]
    rfl
  have hs := fun j t k => scores_real (lay g1 wq wo g2 w1 w2) hg hw H t k j
  have hh : ∀ (r : Fin 1024) c, attnK h (qkvK (lnK h g1) wq) wo (ix2 r c) = hRow (lay g1 wq wo g2 w1 w2) H r c := by
    intro r c
    by_cases hr : (r : ℕ) < 512
    · refine (attnK_lo h _ wo ⟨r, hr⟩ c).trans ?_
      simp only [heads0_row _ _ hx hs, hH]
      rfl
    · have e : r = ⟨512 + (⟨r - 512, by omega⟩ : Fin 512), by simp only []; omega⟩ := Fin.ext (by simp only []; omega)
      rw [e]
      refine (attnK_hi h _ wo ⟨r - 512, by omega⟩ c).trans ?_
      simp only [heads1_row _ _ hx hs, hH]
      rfl
  unfold layerK
  simp only [outK_apply, geluK_apply, hidK_apply, lnK_apply, hh]
  rfl

end Cert.KernelIdeal.Hand
-- ==== Proof.Model.lean ====
/- The row model of the whole prior: two layers, the last layernorm, the output projection and the normalisation. -/
module

public import proofs.«01_k».proof.Proof.Spec
public import Idealize.ShloMosaic.Lib.Pointwise

@[expose] public section

noncomputable section

namespace Cert.Spec

open Idealize.ShloMosaic

/-- Layer `l` of the stacked weights. -/
def wLayer (l : Fin 2) (wq : FVec Ideal ⟨3, ![2, 512, 1536]⟩ .f32) (wo : FVec Ideal ⟨3, ![2, 512, 512]⟩ .f32)
    (g1 g2 : FVec Ideal ⟨2, ![2, 512]⟩ .f32) (w1 : FVec Ideal ⟨3, ![2, 512, 2048]⟩ .f32)
    (w2 : FVec Ideal ⟨3, ![2, 2048, 512]⟩ .f32) : Layer where
  g1 j := g1 (ix2 l j)
  wq i j := wq (ix3 l i j)
  wo i j := wo (ix3 l i j)
  g2 j := g2 (ix2 l j)
  w1 i j := w1 (ix3 l i j)
  w2 i j := w2 (ix3 l i j)

/-- Row `r` of the prior on the rows `H`. -/
def vnRow (p0 p1 : Layer) (gf : Fin 512 → EReal) (w : Fin 512 → Fin 13 → EReal) (H : ℕ → Fin 512 → EReal) (r : ℕ) :
    Fin 13 → EReal :=
  normRow (lin (lnRow (layerRow p1 (layerRow p0 H) r) gf) w)

/-- A row of the prior is always real. -/
theorem vnRow_real (p0 p1 : Layer) (gf : Fin 512 → EReal) (w : Fin 512 → Fin 13 → EReal) (H : ℕ → Fin 512 → EReal)
    (r : ℕ) (j : Fin 13) : IsReal (vnRow p0 p1 gf w H r j) := normRow_real _ j

end Cert.Spec
end
-- ==== Proof.KRows.lean ====
/- The stored block of a batch, row by row. -/
module

public import proofs.«01_k».proof.Proof.KPoint
public import proofs.«01_k».proof.Proof.Model
public import Idealize.ShloMosaic.Lib.Pipeline.ValueKit

@[expose] public section

set_option maxRecDepth 16384

noncomputable section

namespace Cert.KernelIdeal.Hand

open Idealize.ShloMosaic Idealize.ShloMosaic.TcCoe
open Cert.KernelIdeal.Gen
open Cert.Spec

/-- A load of one leading slice of a rank-2 block. -/
theorem ld_slice2 {n k : ℕ} {e : EltTy} (X : Vec Ideal ⟨2, ![n, k]⟩ e) (l : Fin n)
    (inb : ∀ a : Fin 2, (![(l : ℕ), 0] : Fin 2 → ℕ) a + (![1, k] : Fin 2 → ℕ) a ≤ (![n, k] : Fin 2 → ℕ) a) (j : Fin k) :
    View.ld X (Rect.unit (s := ⟨2, ![n, k]⟩) ![(l : ℕ), 0] ![1, k] inb) (ix2 0 j) = X (ix2 l j) :=
  View.ld_unit_apply_of X _ _ inb (ix2 0 j) (ix2 l j) fun a => by
    match a with
    | 0 => exact (Nat.add_zero _).symm
    | 1 => exact (Nat.zero_add _).symm

/-- A load of one leading slice of a rank-3 block. -/
theorem ld_slice3 {n k q : ℕ} {e : EltTy} (X : Vec Ideal ⟨3, ![n, k, q]⟩ e) (l : Fin n)
    (inb : ∀ a : Fin 3, (![(l : ℕ), 0, 0] : Fin 3 → ℕ) a + (![1, k, q] : Fin 3 → ℕ) a ≤ (![n, k, q] : Fin 3 → ℕ) a)
    (i : Fin k) (j : Fin q) :
    View.ld X (Rect.unit (s := ⟨3, ![n, k, q]⟩) ![(l : ℕ), 0, 0] ![1, k, q] inb) (ix3 0 i j) = X (ix3 l i j) :=
  View.ld_unit_apply_of X _ _ inb (ix3 0 i j) (ix3 l i j) fun a => by
    match a with
    | 0 => exact (Nat.add_zero _).symm
    | 1 => exact (Nat.zero_add _).symm
    | 2 => exact (Nat.zero_add _).symm

/-- A load of a whole rank-2 block. -/
theorem ld_whole2 {n k : ℕ} {e : EltTy} (X : Vec Ideal ⟨2, ![n, k]⟩ e)
    (inb : ∀ a : Fin 2, (![0, 0] : Fin 2 → ℕ) a + (![n, k] : Fin 2 → ℕ) a ≤ (![n, k] : Fin 2 → ℕ) a) (i : Fin n) (j : Fin k) :
    View.ld X (Rect.unit (s := ⟨2, ![n, k]⟩) ![0, 0] ![n, k] inb) (ix2 i j) = X (ix2 i j) :=
  View.ld_unit_apply_of X _ _ inb (ix2 i j) (ix2 i j) fun a => by
    match a with
    | 0 => exact (Nat.zero_add _).symm
    | 1 => exact (Nat.zero_add _).symm

variable (x0 : Vec Ideal S1x1024x512 .f32) (x1 : Vec Ideal S1024x512 .f32) (x2 : Vec Ideal S2x512x1536 .f32)
  (x3 : Vec Ideal S2x512x512 .f32) (x4 x5 : Vec Ideal S2x512 .f32) (x6 : Vec Ideal S2x512x2048 .f32)
  (x7 : Vec Ideal S2x2048x512 .f32) (x8 : Vec Ideal S1x512 .f32) (x9 : Vec Ideal S512x13 .f32)

/-- The first layer's loads are the first layer's weights. -/
theorem lay0 : lay (View.ld x4 r0_2) (View.ld x2 r0_3) (View.ld x3 r0_4) (View.ld x5 r0_2) (View.ld x6 r0_5)
    (View.ld x7 r0_6) = wLayer 0 x2 x3 x4 x5 x6 x7 := by
  unfold lay wLayer
  congr 1
  · funext j; exact ld_slice2 x4 0 _ j
  · funext i j; exact ld_slice3 x2 0 _ i j
  · funext i j; exact ld_slice3 x3 0 _ i j
  · funext j; exact ld_slice2 x5 0 _ j
  · funext i j; exact ld_slice3 x6 0 _ i j
  · funext i j; exact ld_slice3 x7 0 _ i j

/-- The second layer's loads are the second layer's weights. -/
theorem lay1 : lay (View.ld x4 r0_7) (View.ld x2 r0_8) (View.ld x3 r0_9) (View.ld x5 r0_7) (View.ld x6 r0_10)
    (View.ld x7 r0_11) = wLayer 1 x2 x3 x4 x5 x6 x7 := by
  unfold lay wLayer
  congr 1
  · funext j; exact ld_slice2 x4 1 _ j
  · funext i j; exact ld_slice3 x2 1 _ i j
  · funext i j; exact ld_slice3 x3 1 _ i j
  · funext j; exact ld_slice2 x5 1 _ j
  · funext i j; exact ld_slice3 x6 1 _ i j
  · funext i j; exact ld_slice3 x7 1 _ i j

/-- The rows the prior starts from. -/
theorem start_apply (r : Fin 1024) (j : Fin 512) :
    k0_pay2 (View.ld x0 r0_0) (View.ld x1 r0_1) (ix2 r j) = x0 (ix3 0 r j) + x1 (ix2 r j) := by
  pointwise [k0_pay2]

/-- A stored row is the model's row. -/
theorem bodyK_row (hg : ∀ (l : Fin 2) j, IsReal (x4 (ix2 l j))) (hw : ∀ (l : Fin 2) i (j : Fin 1536), (j : ℕ) < 1024 → IsReal (x2 (ix3 l i j)))
    (H : ℕ → Fin 512 → EReal) (hH : ∀ (r : Fin 1024) j, x0 (ix3 0 r j) + x1 (ix2 r j) = H r j) (r : Fin 1024) (j : Fin 13) :
    bodyK x0 x1 x2 x3 x4 x5 x6 x7 x8 x9 (ix3 0 r j)
      = vnRow (wLayer 0 x2 x3 x4 x5 x6 x7) (wLayer 1 x2 x3 x4 x5 x6 x7) (fun k => x8 (ix2 0 k)) (fun i j => x9 (ix2 i j)) H r j := by
  have h1 := layerK_row (k0_pay2 (View.ld x0 r0_0) (View.ld x1 r0_1)) (View.ld x4 r0_2) (View.ld x2 r0_3) (View.ld x3 r0_4)
    (View.ld x5 r0_2) (View.ld x6 r0_5) (View.ld x7 r0_6) (fun j => by rw [show View.ld x4 r0_2 (ix2 0 j) = x4 (ix2 0 j) from ld_slice2 x4 0 _ j]; exact hg 0 j)
    (fun i j hj => by rw [show View.ld x2 r0_3 (ix3 0 i j) = x2 (ix3 0 i j) from ld_slice3 x2 0 _ i j]; exact hw 0 i j hj) H
    (fun r j => (start_apply x0 x1 r j).trans (hH r j))
  rw [lay0] at h1
  have h2 := layerK_row (layerK (k0_pay2 (View.ld x0 r0_0) (View.ld x1 r0_1)) (View.ld x4 r0_2) (View.ld x2 r0_3) (View.ld x3 r0_4)
    (View.ld x5 r0_2) (View.ld x6 r0_5) (View.ld x7 r0_6)) (View.ld x4 r0_7) (View.ld x2 r0_8) (View.ld x3 r0_9)
    (View.ld x5 r0_7) (View.ld x6 r0_10) (View.ld x7 r0_11) (fun j => by rw [show View.ld x4 r0_7 (ix2 0 j) = x4 (ix2 1 j) from ld_slice2 x4 1 _ j]; exact hg 1 j)
    (fun i j hj => by rw [show View.ld x2 r0_8 (ix3 0 i j) = x2 (ix3 1 i j) from ld_slice3 x2 1 _ i j]; exact hw 1 i j hj) _ h1
  rw [lay1] at h2
  have h8 : ∀ k, View.ld x8 r0_12 (ix2 0 k) = x8 (ix2 0 k) := fun k => ld_whole2 x8 _ 0 k
  have h9 : ∀ i k, View.ld x9 r0_13 (ix2 i k) = x9 (ix2 i k) := fun i k => ld_whole2 x9 _ i k
  unfold bodyK
  simp only [normK_apply, vK_apply, h2, h8, h9]
  rfl

end Cert.KernelIdeal.Hand
-- ==== Proof.KRegion0.lean ====
/- The array the prior's region leaves, entry by entry. -/
module

public import proofs.«01_k».proof.Proof.KRows

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen
open Cert.Spec

/-- The rows a batch starts from: its rows and the positions, added. -/
def startRow (a : FVec Ideal S4x1024x512 .f32) (pos : FVec Ideal S1024x512 .f32) (b : Fin 4) (t : ℕ) (j : Fin 512) : EReal :=
  if h : t < 1024 then a (ix3 b ⟨t, h⟩ j) + pos (ix2 ⟨t, h⟩ j) else 0

/-- The prior's output, entry by entry. -/
def vnArr (a : FVec Ideal S4x1024x512 .f32) (pos : FVec Ideal S1024x512 .f32) (wq : FVec Ideal S2x512x1536 .f32)
    (wo : FVec Ideal S2x512x512 .f32) (g1 g2 : FVec Ideal S2x512 .f32) (w1 : FVec Ideal S2x512x2048 .f32)
    (w2 : FVec Ideal S2x2048x512 .f32) (gf : FVec Ideal S1x512 .f32) (w : FVec Ideal S512x13 .f32) :
    FVec Ideal S4x1024x13 .f32 :=
  fun i => vnRow (wLayer 0 wq wo g1 g2 w1 w2) (wLayer 1 wq wo g1 g2 w1 w2) (fun k => gf (ix2 0 k)) (fun i j => w (ix2 i j))
    (startRow a pos (i 0)) ((i 1 : Fin 1024) : ℕ) (i 2)

/-- A stored row is the row of the array at its batch. -/
theorem point0 (a : FVec Ideal S4x1024x512 .f32) (pos : FVec Ideal S1024x512 .f32) (wq : FVec Ideal S2x512x1536 .f32)
    (wo : FVec Ideal S2x512x512 .f32) (g1 g2 : FVec Ideal S2x512 .f32) (w1 : FVec Ideal S2x512x2048 .f32)
    (w2 : FVec Ideal S2x2048x512 .f32) (gf : FVec Ideal S1x512 .f32) (w : FVec Ideal S512x13 .f32)
    (hg : ∀ (l : Fin 2) j, IsReal (g1 (ix2 l j))) (hw : ∀ (l : Fin 2) i (j : Fin 1536), (j : ℕ) < 1024 → IsReal (wq (ix3 l i j))) (b : Fin 4)
    (x0 : FVec Ideal S1x1024x512 .f32) (hx : ∀ r j, x0 (ix3 0 r j) = a (ix3 b r j)) (r : Fin 1024) (j : Fin 13) :
    bodyK x0 pos wq wo g1 g2 w1 w2 gf w (ix3 0 r j) = vnArr a pos wq wo g1 g2 w1 w2 gf w (ix3 b r j) := by
  refine (bodyK_row _ _ _ _ _ _ _ _ _ _ hg hw (startRow a pos b) (fun r j => ?_) r j).trans rfl
  rw [hx]
  simp only [startRow, r.2, dif_pos]

variable (V : (c : Dev nD) → (b : Ref sig .tc) → Buf (Elt Ideal) ((c : Thread nD τ).loc b))

/-- The block indices of the region's windows. -/
theorem idx0 : ∀ t : Fin cfg0.N, win0_0.index t = ![t.val, 0, 0] ∧ win0_1.index t = ![0, 0] ∧ win0_2.index t = ![0, 0, 0]
    ∧ win0_3.index t = ![0, 0, 0] ∧ win0_4.index t = ![0, 0] ∧ win0_5.index t = ![0, 0] ∧ win0_6.index t = ![0, 0, 0]
    ∧ win0_7.index t = ![0, 0, 0] ∧ win0_8.index t = ![0, 0] ∧ win0_9.index t = ![0, 0] ∧ win0_10.index t = ![t.val, 0, 0]
    ∧ t.val < 4 :=
  (by decide +kernel : ∀ t : Fin grid0.N, _)

/-- The positions' block is the whole array. -/
theorem iblk0_1 (c : Dev nD) (t : Fin cfg0.N) : iblk0 V c 1 t = V c main_arg3 := by blk_ext! [iblk0, idx0 t]
/-- The projection weights' block is the whole array. -/
theorem iblk0_2 (c : Dev nD) (t : Fin cfg0.N) : iblk0 V c 2 t = V c main_arg4 := by blk_ext! [iblk0, idx0 t]
/-- The output weights' block is the whole array. -/
theorem iblk0_3 (c : Dev nD) (t : Fin cfg0.N) : iblk0 V c 3 t = V c main_arg5 := by blk_ext! [iblk0, idx0 t]
/-- The first scales' block is the whole array. -/
theorem iblk0_4 (c : Dev nD) (t : Fin cfg0.N) : iblk0 V c 4 t = V c main_arg6 := by blk_ext! [iblk0, idx0 t]
/-- The second scales' block is the whole array. -/
theorem iblk0_5 (c : Dev nD) (t : Fin cfg0.N) : iblk0 V c 5 t = V c main_arg7 := by blk_ext! [iblk0, idx0 t]
/-- The first feed-forward weights' block is the whole array. -/
theorem iblk0_6 (c : Dev nD) (t : Fin cfg0.N) : iblk0 V c 6 t = V c main_arg8 := by blk_ext! [iblk0, idx0 t]
/-- The second feed-forward weights' block is the whole array. -/
theorem iblk0_7 (c : Dev nD) (t : Fin cfg0.N) : iblk0 V c 7 t = V c main_arg9 := by blk_ext! [iblk0, idx0 t]
/-- The last scale's block is the whole array. -/
theorem iblk0_8 (c : Dev nD) (t : Fin cfg0.N) : iblk0 V c 8 t = V c main_v72 := by blk_ext! [iblk0, idx0 t]
/-- The output projection's block is the whole array. -/
theorem iblk0_9 (c : Dev nD) (t : Fin cfg0.N) : iblk0 V c 9 t = V c main_arg11 := by blk_ext! [iblk0, idx0 t]

/-- The batch's block at an index. -/
theorem iblk0_0 (c : Dev nD) (t : Fin cfg0.N) (r : Fin 1024) (j : Fin 512) :
    (iblk0 V c 0 t : FVec Ideal S1x1024x512 .f32) (ix3 0 r j)
      = (V c main_v71 : FVec Ideal S4x1024x512 .f32) (ix3 ⟨t.val, (idx0 t).2.2.2.2.2.2.2.2.2.2.2⟩ r j) := by
  blk_ext [iblk0, idx0 t]

set_option maxHeartbeats 1000000 in
/-- The array the region leaves. -/
theorem region0 (c : Dev nD) (hg : ∀ (l : Fin 2) j, IsReal ((V c main_arg6 : FVec Ideal S2x512 .f32) (ix2 l j)))
    (hw : ∀ (l : Fin 2) i (j : Fin 1536), (j : ℕ) < 1024 → IsReal ((V c main_arg4 : FVec Ideal S2x512x1536 .f32) (ix3 l i j))) :
    (dat0 V c).arrAt 10 cfg0.N = vnArr (V c main_v71) (V c main_arg3) (V c main_arg4) (V c main_arg5) (V c main_arg6)
      (V c main_arg7) (V c main_arg8) (V c main_arg9) (V c main_v72) (V c main_arg11) := by
  refine (dat0 V c).arrAt_eq_of_covers 10 _ (by decide +kernel) fun t _ y => ?_
  blk_simp
  rw [after0_10, out_eq]
  frame_out
  rw [iblk0_1, iblk0_2, iblk0_3, iblk0_4, iblk0_5, iblk0_6, iblk0_7, iblk0_8, iblk0_9]
  idx_vars y
  have hb : (t : ℕ) < 4 := (idx0 t).2.2.2.2.2.2.2.2.2.2.2
  obtain rfl : y0 = 0 := Subsingleton.elim _ _
  refine (point0 _ _ _ _ _ _ _ _ _ _ hg hw ⟨t, hb⟩ _ (iblk0_0 V c t) y1 y2).trans (congrArg _ ?_)
  blk_ext [idx0 t]

end Cert.KernelIdeal.Hand
-- ==== Proof.KLoss.lean ====
/- The loss's tile read at an index. -/
module

public import proofs.«01_k».proof.Proof.KRegion0

@[expose] public section

set_option maxRecDepth 16384

noncomputable section

namespace Cert.KernelIdeal.Hand

open Idealize.ShloMosaic Idealize.ShloMosaic.TcCoe
open Cert.KernelIdeal.Gen
open Cert.Spec

/-- The logits of a tile. -/
def logK (v : FVec Ideal S512x13 .f32) (w : FVec Ideal S8192x13 .f32) : FVec Ideal S512x8192 .f32 :=
  matmul dot_S512x13_S8192x13_S512x8192_1_1_0_0_n_n none
    (truncf .bf16 (shapeCast S512x13 v shapeCasts_S512x13_S512x13 : FVec Ideal S512x13 .f32) bitsLt_bf16_f32 : FVec Ideal S512x13 .bf16)
    (truncf .bf16 (shapeCast S8192x13 w shapeCasts_S8192x13_S8192x13 : FVec Ideal S8192x13 .f32) bitsLt_bf16_f32 : FVec Ideal S8192x13 .bf16)
    (constant S512x8192 .f32 0x00000000#32)

/-- The greatest logit of every row of a tile. -/
def mxlK (l : FVec Ideal S512x8192 .f32) : FVec Ideal S512 .f32 :=
  multiReduction .maximumf [1] S512 l 0xFF800000#32 reduces_S512x8192_S512 (.inl rfl) rfl

/-- The sums of the exponentials of a tile's logits less `m`. -/
def smlK (l : FVec Ideal S512x8192 .f32) (m : FVec Ideal S512 .f32) : FVec Ideal S512 .f32 :=
  multiReduction .add [1] S512 (exp (subf l (broadcastTo S512x8192 (shapeCast S512x1 m shapeCasts_S512_S512x1)
    broadcasts_S512x1_S512x8192))) 0x00000000#32 reduces_S512x8192_S512 (.inl rfl) rfl

/-- The log-sum-exp from the greatest logits and the sums. -/
def lsfK (m z : FVec Ideal S512 .f32) : FVec Ideal S512x1 .f32 :=
  addf (shapeCast S512x1 m shapeCasts_S512_S512x1 : FVec Ideal S512x1 .f32)
    (log (shapeCast S512x1 z shapeCasts_S512_S512x1 : FVec Ideal S512x1 .f32))

/-- The tile's log-sum-exp in these pieces. -/
theorem lseK_eq (v : FVec Ideal S512x13 .f32) (w : FVec Ideal S8192x13 .f32) :
    (k1_pay3 (F := Ideal) v w : FVec Ideal S512x1 .f32) = lsfK (mxlK (logK v w)) (smlK (logK v w) (mxlK (logK v w))) := rfl

/-- A logit of a tile. -/
theorem logK_apply (v : FVec Ideal S512x13 .f32) (w : FVec Ideal S8192x13 .f32) (r : Fin 512) (k : Fin 8192) :
    logK v w (ix2 r k) = ∑ d, v (ix2 r d) * w (ix2 k d) := by
  pointwise [logK]

/-- A row's maximum as a fold over its columns. -/
theorem kernMax2 {n0 n1 : ℕ} (c : BitVec 32) (w : FVec Ideal ⟨2, ![n0, n1]⟩ .f32)
    (h : (⟨2, ![n0, n1]⟩ : Shape).Reduces [1] (⟨1, ![n0]⟩ : Shape)) (hφ : FKind.Formats .f32)
    (hc : c = FKind.maximumf.neutral .f32 hφ) (i : Fin n0) :
    multiReduction .maximumf [1] (⟨1, ![n0]⟩ : Shape) w c h hφ hc (ix1 i)
      = Finset.univ.fold max (Ideal.ofBits .f32 c) fun l => w (ix2 i l) := by
  pointwise

/-- The greatest logit of a tile's row. -/
theorem mxlK_apply (l : FVec Ideal S512x8192 .f32) (r : Fin 512) :
    mxlK l (ix1 r) = Finset.univ.fold max (Ideal.ofBits .f32 0xFF800000#32) fun k => l (ix2 r k) := by
  unfold mxlK
  exact kernMax2 _ l _ _ _ r

/-- A tile's row's sum of exponentials. -/
theorem smlK_apply (l : FVec Ideal S512x8192 .f32) (m : FVec Ideal S512 .f32) (r : Fin 512) :
    smlK l m (ix1 r) = ∑ k, Ideal.exp (l (ix2 r k) - m (ix1 r)) := by
  pointwise [smlK]

/-- A tile's row's log-sum-exp from its parts. -/
theorem lsfK_apply (m z : FVec Ideal S512 .f32) (r : Fin 512) :
    lsfK m z (ix2 r 0) = m (ix1 r) + Ideal.log (z (ix1 r)) := by
  pointwise [lsfK]

/-- A row's products with the codes it predicts. -/
theorem dotK_apply (v q : FVec Ideal S512x13 .f32) (r : Fin 512) :
    (k1_pay4 (F := Ideal) v q : FVec Ideal S512x1 .f32) (ix2 r 0) = ∑ d, v (ix2 r d) * q (ix2 r d) := by
  pointwise [k1_pay4, k1_pay2]

/-- The position in its batch of a tile's row. -/
theorem posK_apply (i : grid1.Coords) (r : Fin 512) :
    k1_pay5 i (ix2 r 0) = BitVec.ofNat 32 ((512 * (i 0).val + r) % 1024) := by
  pointwise [k1_pay5]
  have hi : (i 0).val < 8 := (i 0).isLt
  have hr := r.isLt
  generalize (i 0).val = a at hi
  generalize r.val = b at hr
  revert a
  revert b
  decide +kernel

/-- A row's weight: zero at a batch's last position, one elsewhere. -/
theorem weight (n : ℕ) (h : n < 1024) : (FloatOps.sitofp .f32 (BitVec.setWidth 32 (IntOp.cmpi CmpIPredicate.ne (BitVec.ofNat 32 n) 1023#32)) : Ideal .f32)
    = if n = 1023 then (0 : EReal) else (1 : EReal) := by
  by_cases hn : n = 1023
  · subst hn
    rw [if_pos rfl]
    show (((0 : ℤ) : ℝ) : EReal) = 0
    simp
  · have : IntOp.cmpi CmpIPredicate.ne (BitVec.ofNat 32 n) 1023#32 = 1#1 := by
      revert n; decide +kernel
    rw [if_neg hn, this]
    show (((1 : ℤ) : ℝ) : EReal) = 1
    simp

/-- A tile's sum over its rows. -/
theorem tileK_apply (a b : FVec Ideal S512x1 .f32) (p : IVec S512x1 32) :
    k1_pay1 a b p 1023#32 (ix3 0 0 0) = ∑ r : Fin 512,
      FloatOps.sitofp .f32 (BitVec.setWidth 32 (IntOp.cmpi CmpIPredicate.ne (p (ix2 r 0)) 1023#32))
        * (a (ix2 r 0) - b (ix2 r 0)) := by
  pointwise [k1_pay1]
  simp only [Fin.sum_univ_one]

end Cert.KernelIdeal.Hand
end
-- ==== Proof.Loss.lean ====
/- The prior loss over the extended reals: a row's negative log-probability, and the sums of them. -/
module

public import proofs.«01_k».proof.Proof.Spec

@[expose] public section

set_option maxRecDepth 16384

noncomputable section

namespace Cert.Spec

open Idealize.ShloMosaic

/-- The greatest logit. -/
def topOf (l : Fin 8192 → EReal) : EReal := Finset.univ.fold max (Ideal.ofBits .f32 0xFF800000#32) l

/-- The log of the sum of exponentials, taken about the greatest logit. -/
def lseOf (l : Fin 8192 → EReal) : EReal := topOf l + Ideal.log (∑ k, Ideal.exp (l k - topOf l))

/-- The logits of a row. -/
def logits (cb : Fin 8192 → Fin 13 → EReal) (v : Fin 13 → EReal) (k : Fin 8192) : EReal := ∑ d, v d * cb k d

/-- The negative log-probability of the code `k`. -/
def nll (l : Fin 8192 → EReal) (k : Fin 8192) : EReal := lseOf l - l k

/-- The log of a positive real is real. -/
theorem IsReal.log {x : EReal} (h : IsReal x) (hp : 0 < x) : IsReal (Ideal.log x) := by
  obtain ⟨a, rfl⟩ := h
  have ha : (0 : ℝ) < a := by exact_mod_cast hp
  exact ⟨Real.log a, by rw [Ideal.log_coe]; simp [ha, not_le.2 ha]⟩

/-- The exponential of a real is real. -/
theorem IsReal.exp {x : EReal} (h : IsReal x) : IsReal (Ideal.exp x) := by
  obtain ⟨a, rfl⟩ := h
  exact ⟨Real.exp a, Ideal.exp_coe a⟩

/-- The greatest of real logits is real. -/
theorem topOf_real (l : Fin 8192 → EReal) (h : ∀ k, IsReal (l k)) : IsReal (topOf l) := by
  have := max_real l 0 (h 0) (fun k => ((isReal_iff _).1 (h k)).1)
  rw [max_eq_right bot_le] at this
  unfold topOf
  rw [cNegInf]
  exact this

/-- The log-sum-exp of real logits is real, and so is its inner logarithm. -/
theorem lse_real (l : Fin 8192 → EReal) (h : ∀ k, IsReal (l k)) :
    IsReal (Ideal.log (∑ k, Ideal.exp (l k - topOf l))) := by
  have ht := topOf_real l h
  refine IsReal.log (IsReal.sum _ _ fun k => ((h k).sub ht).exp) ?_
  exact lt_of_lt_of_le (exp_pos ((h 0).sub ht)) (Finset.single_le_sum (f := fun k => Ideal.exp (l k - topOf l)) (fun k _ => exp_nonneg _) (Finset.mem_univ 0))

/-- A negative log-probability of real logits is real. -/
theorem nll_real (l : Fin 8192 → EReal) (h : ∀ k, IsReal (l k)) (k : Fin 8192) : IsReal (nll l k) :=
  ((topOf_real l h).add (lse_real l h)).sub (h k)

/-- A log-probability as the negative of a negative one. -/
theorem logprob_eq (l : Fin 8192 → EReal) (h : ∀ k, IsReal (l k)) (k : Fin 8192) :
    l k - max (Ideal.ofBits .f32 0xFF800000#32) (topOf l)
      - Ideal.log (∑ j, Ideal.exp (l j - max (Ideal.ofBits .f32 0xFF800000#32) (topOf l))) = -nll l k := by
  rw [cNegInf, max_eq_right bot_le]
  unfold nll lseOf
  obtain ⟨a, ha⟩ := topOf_real l h
  obtain ⟨c, hc⟩ := lse_real l h
  obtain ⟨d, hd⟩ := h k
  rw [hc, hd, ha]
  norm_cast
  ring

/-- A sum of negated reals is the negated sum. -/
theorem sum_neg_real {ι : Type} (s : Finset ι) (f : ι → EReal) (h : ∀ i, IsReal (f i)) : ∑ i ∈ s, -f i = -∑ i ∈ s, f i := by
  classical
  induction s using Finset.induction_on with
  | empty => simp
  | insert a s ha ih =>
    rw [Finset.sum_insert ha, Finset.sum_insert ha, ih]
    obtain ⟨x, hx⟩ := h a
    obtain ⟨y, hy⟩ := IsReal.sum s f h
    rw [hx, hy]
    norm_cast
    ring

/-- A sum over blocks of a range. -/
theorem sum_blocks (a b : ℕ) (g : ℕ → EReal) :
    ∑ t : Fin a, ∑ r : Fin b, g (b * t + r) = ∑ n ∈ Finset.range (b * a), g n := by
  rw [Fin.sum_univ_eq_sum_range (fun t => ∑ r : Fin b, g (b * t + r)) a]
  induction a with
  | zero => simp
  | succ a ih =>
    rw [Finset.sum_range_succ, ih, Nat.mul_succ, Finset.sum_range_add, Fin.sum_univ_eq_sum_range (fun r => g (b * a + r)) b]

/-- The tiles' weighted sums are the sum over the batches' rows but the last. -/
theorem tiles_eq (f : ℕ → EReal) :
    ∑ t : Fin 8, ∑ r : Fin 512, (if (512 * (t : ℕ) + r) % 1024 = 1023 then (0 : EReal) else 1) * f (512 * t + r)
      = ∑ b : Fin 4, ∑ r : Fin 1023, f (1024 * b + r) := by
  rw [sum_blocks 8 512 fun n => (if n % 1024 = 1023 then (0 : EReal) else 1) * f n,
    ← sum_blocks 4 1024 fun n => (if n % 1024 = 1023 then (0 : EReal) else 1) * f n]
  refine Finset.sum_congr rfl fun b _ => ?_
  rw [Fin.sum_univ_castSucc]
  have h1 : (1024 * (b : ℕ) + ((Fin.last 1023 : Fin 1024) : ℕ)) % 1024 = 1023 := by
    rw [Fin.val_last]; omega
  rw [if_pos h1, zero_mul, add_zero]
  refine Finset.sum_congr rfl fun r _ => ?_
  have h2 : ¬ (1024 * (b : ℕ) + ((Fin.castSucc r : Fin 1024) : ℕ)) % 1024 = 1023 := by
    rw [Fin.val_castSucc]; omega
  rw [if_neg h2, one_mul, Fin.val_castSucc]

/-- The mean of negated reals, negated. -/
theorem neg_div_neg (f : Fin 4 → Fin 1023 → EReal) (h : ∀ b r, IsReal (f b r)) :
    -(Ideal.div (∑ b, ∑ r, -f b r) (Ideal.ofBits .f32 0x457FC000#32))
      = Ideal.div (∑ b, ∑ r, f b r) (Ideal.ofBits .f32 0x457FC000#32) := by
  simp only [fun b => sum_neg_real Finset.univ (f b) (h b)]
  rw [sum_neg_real Finset.univ (fun b => ∑ r, f b r) (fun b => IsReal.sum _ _ (h b)), c4092]
  have h0 : ((4092 : ℝ) : EReal) ≠ 0 := by norm_cast
  simp only [Ideal.div, if_neg h0, EReal.neg_mul, neg_neg]

end Cert.Spec
end
-- ==== Proof.KRegion1.lean ====
/- The array the loss's region leaves, entry by entry. -/
module

public import proofs.«01_k».proof.Proof.KLoss
public import proofs.«01_k».proof.Proof.Loss

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen
open Cert.Spec

/-- The codebook's rows as a table. -/
def cbK (w : FVec Ideal S8192x13 .f32) (k : Fin 8192) (d : Fin 13) : EReal := w (ix2 k d)

/-- A row's loss: its log-sum-exp less its product with the code it predicts. -/
def rowLoss (w : FVec Ideal S8192x13 .f32) (v q : Fin 13 → EReal) : EReal := lseOf (logits (cbK w) v) - ∑ d, v d * q d

/-- A tile's row among all the rows. -/
def tileRow (t : Fin 8) (r : Fin 512) : Fin 4096 := ⟨512 * (t : ℕ) + r, by omega⟩

/-- A tile's loss: the weighted sum of its row losses. -/
def tileLoss (v q : FVec Ideal S4096x13 .f32) (w : FVec Ideal S8192x13 .f32) (t : Fin 8) : EReal :=
  ∑ r : Fin 512, (if (512 * (t : ℕ) + r) % 1024 = 1023 then (0 : EReal) else 1)
    * rowLoss w (fun d => v (ix2 (tileRow t r) d)) (fun d => q (ix2 (tileRow t r) d))

/-- The loss's output, a sum per tile. -/
def lossArr (v q : FVec Ideal S4096x13 .f32) (w : FVec Ideal S8192x13 .f32) : FVec Ideal S8x1x1 .f32 := fun i =>
  tileLoss v q w (i 0)

/-- A tile's log-sum-exp. -/
theorem lseK_apply (v : FVec Ideal S512x13 .f32) (w : FVec Ideal S8192x13 .f32) (r : Fin 512) :
    (k1_pay3 (F := Ideal) v w : FVec Ideal S512x1 .f32) (ix2 r 0) = lseOf (logits (cbK w) fun d => v (ix2 r d)) := by
  rw [lseK_eq, lsfK_apply, smlK_apply, mxlK_apply]
  simp only [logK_apply]
  rfl

/-- A stored sum is its tile's loss. -/
theorem point1 (v q : FVec Ideal S4096x13 .f32) (w : FVec Ideal S8192x13 .f32) (i : grid1.Coords) (t : Fin 8) (ht : (i 0).val = t.val)
    (x0 x1 : FVec Ideal S512x13 .f32) (hx : ∀ r d, x0 (ix2 r d) = v (ix2 (tileRow t r) d))
    (hq : ∀ r d, x1 (ix2 r d) = q (ix2 (tileRow t r) d)) :
    k1_pay1 (k1_pay3 (F := Ideal) x0 w) (k1_pay4 (F := Ideal) x0 x1) (k1_pay5 i) 1023#32 (ix3 0 0 0) = tileLoss v q w t := by
  rw [tileK_apply]
  unfold tileLoss
  refine Finset.sum_congr rfl fun r _ => ?_
  rw [posK_apply, weight _ (Nat.mod_lt _ (by norm_num)), lseK_apply, dotK_apply, ht]
  simp only [hx, hq]
  rfl

variable (V : (c : Dev nD) → (b : Ref sig .tc) → Buf (Elt Ideal) ((c : Thread nD τ).loc b))

/-- The block indices of the region's windows. -/
theorem idx1 : ∀ t : Fin cfg1.N, win1_0.index t = ![t.val, 0] ∧ win1_1.index t = ![t.val, 0] ∧ win1_2.index t = ![0, 0]
    ∧ win1_3.index t = ![t.val, 0, 0] ∧ ((grid1.coords t) 0).val = t.val ∧ t.val < 8 :=
  (by decide +kernel : ∀ t : Fin grid1.N, _)

/-- The codebook's block is the whole array. -/
theorem iblk1_2 (c : Dev nD) (t : Fin cfg1.N) : iblk1 V c 2 t = V c main_v15 := by blk_ext! [iblk1, idx1 t]

/-- The rows' block at an index. -/
theorem iblk1_0 (c : Dev nD) (t : Fin cfg1.N) (r : Fin 512) (d : Fin 13) :
    (iblk1 V c 0 t : FVec Ideal S512x13 .f32) (ix2 r d)
      = (V c main_v74 : FVec Ideal S4096x13 .f32) (ix2 (tileRow ⟨t.val, (idx1 t).2.2.2.2.2⟩ r) d) := by
  blk_ext [iblk1, idx1 t, tileRow]

/-- The predicted codes' block at an index. -/
theorem iblk1_1 (c : Dev nD) (t : Fin cfg1.N) (r : Fin 512) (d : Fin 13) :
    (iblk1 V c 1 t : FVec Ideal S512x13 .f32) (ix2 r d)
      = (V c main_v78 : FVec Ideal S4096x13 .f32) (ix2 (tileRow ⟨t.val, (idx1 t).2.2.2.2.2⟩ r) d) := by
  blk_ext [iblk1, idx1 t, tileRow]

/-- A whole load is the array. -/
theorem ld_all {n k : ℕ} {e : EltTy} (X : Vec Ideal ⟨2, ![n, k]⟩ e)
    (inb : ∀ a : Fin 2, (![0, 0] : Fin 2 → ℕ) a + (![n, k] : Fin 2 → ℕ) a ≤ (![n, k] : Fin 2 → ℕ) a) :
    View.ld X (Rect.unit (s := ⟨2, ![n, k]⟩) ![0, 0] ![n, k] inb) = X := by
  funext i
  have hi : i = ix2 (i 0) (i 1) := by
    funext a; match a with
    | ⟨0, _⟩ => rfl
    | ⟨1, _⟩ => rfl
  rw [hi]
  exact ld_whole2 X inb _ _

/-- The stored block over the whole loads. -/
theorem out1_eq (i : grid1.Coords) (x0 x1 : Vec Ideal S512x13 .f32) (x2 : Vec Ideal S8192x13 .f32) :
    out1_3 i x0 x1 x2 = View.canon [⟨r1_2, k1_pay1 (k1_pay3 x0 x2) (k1_pay4 x0 x1) (k1_pay5 i) 1023#32⟩] := by
  have h0 : View.ld x0 r1_0 = x0 := ld_all x0 _
  have h1 : View.ld x1 r1_0 = x1 := ld_all x1 _
  have h2 : View.ld x2 r1_1 = x2 := ld_all x2 _
  unfold out1_3
  rw [h0, h1, h2]

set_option maxHeartbeats 1000000 in
/-- The array the region leaves. -/
theorem region1 (c : Dev nD) :
    (dat1 V c).arrAt 3 cfg1.N = lossArr (V c main_v74) (V c main_v78) (V c main_v15) := by
  refine (dat1 V c).arrAt_eq_of_covers 3 _ (by decide +kernel) fun t _ y => ?_
  blk_simp
  rw [after1_3, out1_eq]
  frame_out
  rw [iblk1_2]
  idx_vars y
  have hb : (t : ℕ) < 8 := (idx1 t).2.2.2.2.2
  obtain rfl : y0 = 0 := Subsingleton.elim _ _
  obtain rfl : y1 = 0 := Subsingleton.elim _ _
  obtain rfl : y2 = 0 := Subsingleton.elim _ _
  refine (point1 _ _ _ _ ⟨t, hb⟩ (idx1 t).2.2.2.2.1 _ _ (iblk1_0 V c t) (iblk1_1 V c t)).trans ?_
  show lossArr (V c main_v74) (V c main_v78) (V c main_v15) (ix3 ⟨t, hb⟩ 0 0) = _
  refine congrArg _ ?_
  blk_ext [idx1 t]

end Cert.KernelIdeal.Hand
end
-- ==== Proof.KHost.lean ====
/- The kernel's host operations around the two regions, read at an index. -/
module

public import proofs.«01_k».proof.Proof.KRun
public import proofs.«01_k».proof.Proof.KRegion1
public import Idealize.ShloMosaic.Lib.StableHlo.RunHlo
public import Idealize.ShloMosaic.Lib.StableHlo.RunRead

@[expose] public section

set_option maxRecDepth 16384

noncomputable section

namespace Cert.KernelIdeal.Hand

open Idealize.ShloMosaic Idealize.ShloMosaic.TcCoe
open Cert.KernelIdeal Cert.KernelIdeal.Gen
open Cert.Spec
open Facts

/-- A padded array at one of its own rows. -/
theorem pad_row (x : FVec Ideal S4x1023x512 .f32) (v : FVec Ideal S_ .f32) (b : Fin 4) (t : Fin 1023) (j : Fin 512) :
    (pad S4x1024x512 ![0, 0, 0] ![0, 1, 0] ![0, 0, 0] x v pads_S4x1023x512_S4x1024x512_000_010_000 h_S_ : FVec Ideal S4x1024x512 .f32)
      (ix3 b ⟨t, by omega⟩ j) = x (ix3 b t j) := by
  pointwise

/-- The last scale read as a row. -/
theorem scale_row (x : FVec Ideal S512 .f32) (k : Fin 512) :
    (shapeCast S1x512 x shapeCasts_S512_S1x512 : FVec Ideal S1x512 .f32) (ix2 0 k) = x (ix1 k) := by
  pointwise

/-- The mean of the tiles' sums, of any tiles. -/
theorem mean_tiles (x : FVec Ideal S8x1x1 .f32) (i : S_.Idx) :
    mulf (constant S_ .f32 0x3F800000#32) (Host.divf
      (Host.reduceAdd x (constant (F := Ideal) S_ .f32 0x00000000#32) reducesTo_S8x1x1_S_d0_1_2 h_S_)
      (constant (F := Ideal) S_ .f32 0x457FC000#32)) i
    = Ideal.ofBits .f32 0x3F800000#32 * Ideal.div (∑ t : Fin 8, x (ix3 t 0 0)) (Ideal.ofBits .f32 0x457FC000#32) := by
  pointwise
  simp only [Fin.sum_univ_one]

/-- The batches one after the other, at a row. -/
theorem flat_row (x : FVec Ideal S4x1024x13 .f32) (b : Fin 4) (r : Fin 1024) (d : Fin 13) :
    (shapeCast S4096x13 x shapeCasts_S4x1024x13_S4096x13 : FVec Ideal S4096x13 .f32) (ix2 ⟨1024 * b + r, by omega⟩ d) = x (ix3 b r d) := by
  pointwise

/-- The rows from the second on. -/
theorem tail_row (y : FVec Ideal S4096x13 .f32) (n : Fin 4095) (d : Fin 13) :
    (extractStridedSlice S4095x13 ![1, 0] y slices_S4096x13_S4095x13_1_0 : FVec Ideal S4095x13 .f32) (ix2 n d)
      = y (ix2 ⟨1 + n, by omega⟩ d) := by
  pointwise

/-- The rows from the second on, then the first, at a row that is not the last. -/
theorem roll_row (y : FVec Ideal S4096x13 .f32) (n : Fin 4095) (d : Fin 13) :
    (concatenate S4096x13 0 [⟨S4095x13, (extractStridedSlice S4095x13 ![1, 0] y slices_S4096x13_S4095x13_1_0 : FVec Ideal S4095x13 .f32)⟩,
      ⟨S1x13, (extractStridedSlice S1x13 ![0, 0] y slices_S4096x13_S1x13_0_0 : FVec Ideal S1x13 .f32)⟩]
      concatenates_S4095x13_S1x13_S4096x13_d0 : FVec Ideal S4096x13 .f32) (ix2 ⟨n, by omega⟩ d) = y (ix2 ⟨1 + n, by omega⟩ d) := by
  rw [← tail_row y n d]
  refine concatenate_pair_apply_left (t := S4096x13) (s₁ := S4095x13) (s₂ := S1x13) 0 _ _ concatenates_S4095x13_S1x13_S4096x13_d0 (ix2 ⟨n, by omega⟩ d) rfl (ix2 n d) fun b => ?_
  match b with
  | ⟨0, _⟩ => rfl
  | ⟨1, _⟩ => rfl

variable (X : Valuation τ sig (Elt Ideal))

/-- The rows padded by one row of zeros, at one of the rows. -/
theorem k71 (b : Fin 4) (t : Fin 1023) (j : Fin 512) :
    (StableHlo.after hostOps0_19 X (Proc.devRef .tc main_v71) : FVec Ideal S4x1024x512 .f32) (ix3 b ⟨t, by omega⟩ j)
      = (X (Proc.devRef .tc main_v28) : FVec Ideal S4x1023x512 .f32) (ix3 b t j) := by
  after_reads_simp
  exact pad_row _ _ b t j

/-- The last scale as a row. -/
theorem k72 (k : Fin 512) : (StableHlo.after hostOps0_20 X (Proc.devRef .tc main_v72) : FVec Ideal S1x512 .f32) (ix2 0 k)
    = (X (Proc.devRef .tc main_arg10) : FVec Ideal S512 .f32) (ix1 k) := by
  after_reads_simp
  exact scale_row _ k

/-- The prior's rows, the batches one after the other. -/
theorem k74 : (StableHlo.after hostOps1 X (Proc.devRef .tc main_v74) : FVec Ideal S4096x13 .f32)
    = shapeCast S4096x13 (X (Proc.devRef .tc main_v73) : FVec Ideal S4x1024x13 .f32) shapeCasts_S4x1024x13_S4096x13 := by
  after_reads_simp
  rfl

/-- The codes looked up, the batches one after the other, from the second on. -/
theorem k78 : (StableHlo.after hostOps1 X (Proc.devRef .tc main_v78) : FVec Ideal S4096x13 .f32)
    = concatenate S4096x13 0 [⟨S4095x13, extractStridedSlice S4095x13 ![1, 0]
        (shapeCast S4096x13 (X (Proc.devRef .tc main_v18) : FVec Ideal S4x1024x13 .f32) shapeCasts_S4x1024x13_S4096x13 : FVec Ideal S4096x13 .f32)
        slices_S4096x13_S4095x13_1_0⟩,
      ⟨S1x13, extractStridedSlice S1x13 ![0, 0]
        (shapeCast S4096x13 (X (Proc.devRef .tc main_v18) : FVec Ideal S4x1024x13 .f32) shapeCasts_S4x1024x13_S4096x13 : FVec Ideal S4096x13 .f32)
        slices_S4096x13_S1x13_0_0⟩] concatenates_S4095x13_S1x13_S4096x13_d0 := by
  after_reads_simp
  rfl

/-- The mean of the tiles' sums. -/
theorem k82 (i : S_.Idx) : (StableHlo.after hostOps2 X (Proc.devRef .tc main_v82) : FVec Ideal S_ .f32) i
    = Ideal.ofBits .f32 0x3F800000#32 * Ideal.div (∑ t : Fin 8, (X (Proc.devRef .tc main_v79) : FVec Ideal S8x1x1 .f32) (ix3 t 0 0))
      (Ideal.ofBits .f32 0x457FC000#32) := by
  after_reads_simp
  exact mean_tiles _ i

end Cert.KernelIdeal.Hand
end
-- ==== Proof.KFinal.lean ====
/- The kernel's prior loss as a mean of row losses. -/
module

public import proofs.«01_k».proof.Proof.KHost
public import proofs.«01_k».proof.Proof.KRegion0

@[expose] public section

set_option maxRecDepth 16384

noncomputable section

namespace Cert.KernelIdeal.Hand

open Idealize.ShloMosaic Idealize.ShloMosaic.TcCoe
open Cert.KernelIdeal Cert.KernelIdeal.Gen
open Cert.Spec
open Facts

/-- The tiles' losses are the row losses of every batch's rows but its last. -/
theorem tiles_sum (v q : FVec Ideal S4096x13 .f32) (w : FVec Ideal S8192x13 .f32) :
    ∑ t : Fin 8, tileLoss v q w t = ∑ b : Fin 4, ∑ r : Fin 1023,
      rowLoss w (fun d => v (ix2 ⟨1024 * b + r, by omega⟩ d)) (fun d => q (ix2 ⟨1024 * b + r, by omega⟩ d)) := by
  have h := tiles_eq fun n => if hn : n < 4096 then rowLoss w (fun d => v (ix2 ⟨n, hn⟩ d)) (fun d => q (ix2 ⟨n, hn⟩ d)) else 0
  refine Eq.trans ?_ (h.trans ?_)
  · refine Finset.sum_congr rfl fun t _ => Finset.sum_congr rfl fun r _ => ?_
    rw [dif_pos (show 512 * (t : ℕ) + r < 4096 by omega)]
    rfl
  · refine Finset.sum_congr rfl fun b _ => Finset.sum_congr rfl fun r _ => ?_
    rw [dif_pos (show 1024 * (b : ℕ) + r < 4096 by omega)]

/-- Row `r` of batch `b` of the prior's rows, flattened. -/
theorem flat_at (x : FVec Ideal S4x1024x13 .f32) (b : Fin 4) (r : Fin 1023) (d : Fin 13) :
    (shapeCast S4096x13 x shapeCasts_S4x1024x13_S4096x13 : FVec Ideal S4096x13 .f32) (ix2 ⟨1024 * b + r, by omega⟩ d)
      = x (ix3 b ⟨r, by omega⟩ d) := flat_row x b ⟨r, by omega⟩ d

/-- Row `r` of batch `b` of the codes, flattened and moved up by one row: the batch's next row. -/
theorem roll_at (x : FVec Ideal S4x1024x13 .f32) (b : Fin 4) (r : Fin 1023) (d : Fin 13) :
    (concatenate S4096x13 0 [⟨S4095x13, (extractStridedSlice S4095x13 ![1, 0]
        (shapeCast S4096x13 x shapeCasts_S4x1024x13_S4096x13 : FVec Ideal S4096x13 .f32) slices_S4096x13_S4095x13_1_0 : FVec Ideal S4095x13 .f32)⟩,
      ⟨S1x13, (extractStridedSlice S1x13 ![0, 0]
        (shapeCast S4096x13 x shapeCasts_S4x1024x13_S4096x13 : FVec Ideal S4096x13 .f32) slices_S4096x13_S1x13_0_0 : FVec Ideal S1x13 .f32)⟩]
      concatenates_S4095x13_S1x13_S4096x13_d0 : FVec Ideal S4096x13 .f32) (ix2 ⟨1024 * b + r, by omega⟩ d)
      = x (ix3 b ⟨1 + r, by omega⟩ d) := by
  have e : (⟨1 + (1024 * (b : ℕ) + r), by omega⟩ : Fin 4096) = ⟨1024 * (b : ℕ) + (⟨1 + r, by omega⟩ : Fin 1024), by
      show 1024 * (b : ℕ) + (1 + r) < 4096; omega⟩ := Fin.ext (show 1 + (1024 * (b : ℕ) + r) = 1024 * (b : ℕ) + (1 + r) by omega)
  refine (roll_row _ ⟨1024 * b + r, by omega⟩ d).trans ?_
  exact (congrArg (fun n : Fin 4096 => (shapeCast S4096x13 x shapeCasts_S4x1024x13_S4096x13 : FVec Ideal S4096x13 .f32) (ix2 n d)) e).trans
    (flat_row x b ⟨1 + r, by omega⟩ d)

variable (m : (ℓ : Loc nD τ sig) → Buf (Elt Ideal) ℓ) (ρ : Dev nD → PrngReg) (c : Dev nD)

/-- The prior's rows as the first region leaves them. -/
theorem at73 (hg : ∀ (l : Fin 2) j, IsReal ((W21 m ρ c (Proc.devRef .tc main_arg6) : FVec Ideal S2x512 .f32) (ix2 l j)))
    (hw : ∀ (l : Fin 2) i (j : Fin 1536), (j : ℕ) < 1024 → IsReal ((W21 m ρ c (Proc.devRef .tc main_arg4) : FVec Ideal S2x512x1536 .f32) (ix3 l i j))) :
    W22 m ρ c (Proc.devRef .tc main_v73) = vnArr (W21 m ρ c (Proc.devRef .tc main_v71)) (W21 m ρ c (Proc.devRef .tc main_arg3))
      (W21 m ρ c (Proc.devRef .tc main_arg4)) (W21 m ρ c (Proc.devRef .tc main_arg5)) (W21 m ρ c (Proc.devRef .tc main_arg6))
      (W21 m ρ c (Proc.devRef .tc main_arg7)) (W21 m ρ c (Proc.devRef .tc main_arg8)) (W21 m ρ c (Proc.devRef .tc main_arg9))
      (W21 m ρ c (Proc.devRef .tc main_v72)) (W21 m ρ c (Proc.devRef .tc main_arg11)) :=
  (W22_arr m ρ c 10).trans (region0 (V21 m ρ) c hg hw)

/-- The tiles' sums as the second region leaves them. -/
theorem at79 : W24 m ρ c (Proc.devRef .tc main_v79) = lossArr (W23 m ρ c (Proc.devRef .tc main_v74))
      (W23 m ρ c (Proc.devRef .tc main_v78)) (W23 m ρ c (Proc.devRef .tc main_v15)) :=
  (W24_arr m ρ c 3).trans (region1 (V23 m ρ) c)

/-- The codebook's rows pass the first region unchanged. -/
theorem at15 : W23 m ρ c (Proc.devRef .tc main_v15) = W21 m ρ c (Proc.devRef .tc main_v15) :=
  (W23_of m ρ c main_v15 (by decide)).trans (W22_of m ρ c main_v15 (by decide))

/-- The codes looked up pass the first region unchanged. -/
theorem at18 : W22 m ρ c (Proc.devRef .tc main_v18) = W21 m ρ c (Proc.devRef .tc main_v18) :=
  W22_of m ρ c main_v18 (by decide)

/-- A result computed before the regions passes them unchanged. -/
theorem kept (r : Ref sig .tc) (h2 : r ∉ hostOps2_W) (h1 : r ∉ hostOps1_W)
    (e1 : ∀ w : Fin cfg1.W, Pipeline.arrRef spec1 w = r → (cfg1.win w).isOut = false)
    (e0 : ∀ w : Fin cfg0.W, Pipeline.arrRef spec0 w = r → (cfg0.win w).isOut = false) :
    W25 m ρ c (Proc.devRef .tc r) = W21 m ρ c (Proc.devRef .tc r) :=
  (W25_of m ρ c r h2).trans ((W24_of m ρ c r e1).trans ((W23_of m ρ c r h1).trans (W22_of m ρ c r e0)))

/-- The prior's rows, as a table. -/
def vnK (b : Fin 4) (r : Fin 1023) (d : Fin 13) : EReal :=
  (W22 m ρ c (Proc.devRef .tc main_v73) : FVec Ideal S4x1024x13 .f32) (ix3 b ⟨r, by omega⟩ d)

/-- The code the next row looks up. -/
def nextK (b : Fin 4) (r : Fin 1023) (d : Fin 13) : EReal :=
  (W21 m ρ c (Proc.devRef .tc main_v18) : FVec Ideal S4x1024x13 .f32) (ix3 b ⟨1 + r, by omega⟩ d)

/-- The prior loss: the mean of the row losses. -/
theorem at82 (i : S_.Idx) : (W25 m ρ c (Proc.devRef .tc main_v82) : FVec Ideal S_ .f32) i
    = Ideal.ofBits .f32 0x3F800000#32 * Ideal.div (∑ b : Fin 4, ∑ r : Fin 1023,
        rowLoss (W21 m ρ c (Proc.devRef .tc main_v15)) (vnK m ρ c b r) (nextK m ρ c b r)) (Ideal.ofBits .f32 0x457FC000#32) := by
  refine (k82 (W24 m ρ c) i).trans ?_
  rw [at79, at15]
  refine congrArg (fun s => Ideal.ofBits .f32 0x3F800000#32 * Ideal.div s (Ideal.ofBits .f32 0x457FC000#32)) ?_
  refine (tiles_sum (W23 m ρ c (Proc.devRef .tc main_v74)) (W23 m ρ c (Proc.devRef .tc main_v78)) _).trans ?_
  refine Finset.sum_congr rfl fun b _ => Finset.sum_congr rfl fun r _ => ?_
  have h1 : (fun d => (W23 m ρ c (Proc.devRef .tc main_v74) : FVec Ideal S4096x13 .f32) (ix2 ⟨1024 * b + r, by omega⟩ d)) = vnK m ρ c b r :=
    funext fun d => (congrFun (k74 (W22 m ρ c)) _).trans (flat_at _ b r d)
  have h2 : (fun d => (W23 m ρ c (Proc.devRef .tc main_v78) : FVec Ideal S4096x13 .f32) (ix2 ⟨1024 * b + r, by omega⟩ d)) = nextK m ρ c b r :=
    funext fun d => (congrFun (k78 (W22 m ρ c)) _).trans ((roll_at _ b r d).trans (congrFun (at18 m ρ c) _))
  exact congrArg₂ _ h1 h2

/-- The padded rows the first region reads are the projected rows. -/
theorem at71 (b : Fin 4) (t : Fin 1023) (j : Fin 512) :
    (W21 m ρ c (Proc.devRef .tc main_v71) : FVec Ideal S4x1024x512 .f32) (ix3 b ⟨t, by omega⟩ j)
      = (W21 m ρ c (Proc.devRef .tc main_v28) : FVec Ideal S4x1023x512 .f32) (ix3 b t j) := by
  have h : W21 m ρ c (Proc.devRef .tc main_v28) = W19 m ρ c (Proc.devRef .tc main_v28) :=
    (W21_of m ρ c main_v28 (by decide)).trans (W20_of m ρ c main_v28 (by decide))
  exact (congrFun (W21_of m ρ c main_v71 (by decide)) _).trans ((k71 (W19 m ρ c) b t j).trans (congrFun h _).symm)

/-- The last scale the first region reads. -/
theorem at72 (k : Fin 512) : (W21 m ρ c (Proc.devRef .tc main_v72) : FVec Ideal S1x512 .f32) (ix2 0 k)
    = (W21 m ρ c (Proc.devRef .tc main_arg10) : FVec Ideal S512 .f32) (ix1 k) :=
  (k72 (W20 m ρ c) k).trans (congrFun (W21_of m ρ c main_arg10 (by decide)) _).symm

/-- A row of the prior, in the arguments and the projected rows. -/
theorem vnK_apply (hg : ∀ (l : Fin 2) j, IsReal ((W21 m ρ c (Proc.devRef .tc main_arg6) : FVec Ideal S2x512 .f32) (ix2 l j)))
    (hw : ∀ (l : Fin 2) i (j : Fin 1536), (j : ℕ) < 1024 → IsReal ((W21 m ρ c (Proc.devRef .tc main_arg4) : FVec Ideal S2x512x1536 .f32) (ix3 l i j)))
    (b : Fin 4) (r : Fin 1023) (d : Fin 13) :
    vnK m ρ c b r d = vnRow
      (wLayer 0 (W21 m ρ c (Proc.devRef .tc main_arg4)) (W21 m ρ c (Proc.devRef .tc main_arg5)) (W21 m ρ c (Proc.devRef .tc main_arg6))
        (W21 m ρ c (Proc.devRef .tc main_arg7)) (W21 m ρ c (Proc.devRef .tc main_arg8)) (W21 m ρ c (Proc.devRef .tc main_arg9)))
      (wLayer 1 (W21 m ρ c (Proc.devRef .tc main_arg4)) (W21 m ρ c (Proc.devRef .tc main_arg5)) (W21 m ρ c (Proc.devRef .tc main_arg6))
        (W21 m ρ c (Proc.devRef .tc main_arg7)) (W21 m ρ c (Proc.devRef .tc main_arg8)) (W21 m ρ c (Proc.devRef .tc main_arg9)))
      (fun k => (W21 m ρ c (Proc.devRef .tc main_arg10) : FVec Ideal S512 .f32) (ix1 k))
      (fun i j => (W21 m ρ c (Proc.devRef .tc main_arg11) : FVec Ideal S512x13 .f32) (ix2 i j))
      (startRow (W21 m ρ c (Proc.devRef .tc main_v71)) (W21 m ρ c (Proc.devRef .tc main_arg3)) b) r d := by
  unfold vnK
  rw [at73 m ρ c hg hw]
  unfold vnArr
  refine congrArg (fun g => vnRow _ _ g _ _ _ _) (funext fun k => at72 m ρ c k)

end Cert.KernelIdeal.Hand
end
-- ==== Proof.RBody.lean ====
/- The reference's prior in the steps of the model: layernorm, projections, heads, masked attention, residual,
   feed-forward, output; and the buffers of its run as these steps of earlier buffers. -/
module

public import proofs.«01_k».proof.Proof.RefRun

@[expose] public section

set_option maxRecDepth 16384

noncomputable section

namespace Cert.ReferenceIdeal.Hand

open Idealize.ShloMosaic Idealize.ShloMosaic.TcCoe
open Cert.ReferenceIdeal Cert.ReferenceIdeal.Gen
open Facts

/-- The layernorm of every row, with the scale `g`. -/
def lnR (h : FVec Ideal S4x1023x512 .f32) (g : FVec Ideal S512 .f32) : FVec Ideal S4x1023x512 .f32 :=
  let n : FVec Ideal S4x1023x1 .f32 := broadcastInDim S4x1023x1 ![] bcast_S_S4x1023x1 (constant (F := Ideal) S_ .f32 0x44000000#32)
  let mu : FVec Ideal S4x1023x1 .f32 := Host.divf (broadcastInDim S4x1023x1 ![0, 1] bcast_S4x1023_S4x1023x1_0_1
    (Host.reduceAdd h (constant S_ .f32 0x00000000#32) reducesTo_S4x1023x512_S4x1023_d2 h_S_)) n
  let y : FVec Ideal S4x1023x512 .f32 := subf h (broadcastInDim S4x1023x512 ![0, 1, 2] bcast_S4x1023x1_S4x1023x512_0_1_2 mu)
  let var : FVec Ideal S4x1023x1 .f32 := Host.divf (broadcastInDim S4x1023x1 ![0, 1] bcast_S4x1023_S4x1023x1_0_1
    (Host.reduceAdd (mulf y y) (constant S_ .f32 0x00000000#32) reducesTo_S4x1023x512_S4x1023_d2 h_S_)) n
  let sd : FVec Ideal S4x1023x1 .f32 := Host.sqrt (addf var (broadcastInDim S4x1023x1 ![] bcast_S_S4x1023x1
    (constant (F := Ideal) S_ .f32 0x3727C5AC#32)))
  mulf (Host.divf y (broadcastInDim S4x1023x512 ![0, 1, 2] bcast_S4x1023x1_S4x1023x512_0_1_2 sd))
    (broadcastInDim S4x1023x512 ![0, 1, 2] bcast_S1x1x512_S4x1023x512_0_1_2
      (broadcastInDim S1x1x512 ![2] bcast_S512_S1x1x512_2 g))

/-- The queries, keys and values of every row. -/
def qkvR (a : FVec Ideal S4x1023x512 .f32) (w : FVec Ideal S512x1536 .f32) : FVec Ideal S4x1023x1536 .f32 :=
  Host.dotGeneral dot_S4x1023x512_S512x1536_S4x1023x1536_2_0_01_1_n_n none a w

/-- A third of the projections split into heads. -/
def hdR (x : FVec Ideal S4x1023x512 .f32) : FVec Ideal S4x8x1023x64 .f32 :=
  transpose S4x8x1023x64 [0, 2, 1, 3]
    (shapeCast S4x1023x8x64 x shapeCasts_S4x1023x512_S4x1023x8x64 : FVec Ideal S4x1023x8x64 .f32)
    transposes_S4x1023x8x64_S4x8x1023x64_0_2_1_3

/-- The queries of the heads. -/
def qR (x : FVec Ideal S4x1023x1536 .f32) : FVec Ideal S4x8x1023x64 .f32 :=
  hdR (extractStridedSlice S4x1023x512 ![0, 0, 0] x slices_S4x1023x1536_S4x1023x512_0_0_0)

/-- The keys of the heads. -/
def kR (x : FVec Ideal S4x1023x1536 .f32) : FVec Ideal S4x8x1023x64 .f32 :=
  hdR (extractStridedSlice S4x1023x512 ![0, 0, 512] x slices_S4x1023x1536_S4x1023x512_0_0_512)

/-- The values of the heads. -/
def vR (x : FVec Ideal S4x1023x1536 .f32) : FVec Ideal S4x8x1023x64 .f32 :=
  hdR (extractStridedSlice S4x1023x512 ![0, 0, 1024] x slices_S4x1023x1536_S4x1023x512_0_0_1024)

/-- The causal mask. -/
def trilR : IVec S1023x1023 1 :=
  select (cmpi .sge (addi (iotaInDim S1023x1023 32 0)
    (broadcastInDim S1023x1023 ![] bcast_S_S1023x1023 (constantI S_ 32 0#32))) (iotaInDim S1023x1023 32 1))
    (broadcastInDim S1023x1023 ![] bcast_S_S1023x1023 (constantI S_ 1 1#1))
    (broadcastInDim S1023x1023 ![] bcast_S_S1023x1023 (constantI S_ 1 0#1))

/-- The scaled scores of every head, −∞ where the mask `mk` forbids. -/
def scoreR (mk : IVec S1023x1023 1) (q k : FVec Ideal S4x8x1023x64 .f32) : FVec Ideal S4x8x1023x1023 .f32 :=
  let s : FVec Ideal S4x8x1023x1023 .f32 := Host.divf
    (Host.dotGeneral dot_S4x8x1023x64_S4x8x1023x64_S4x8x1023x1023_3_3_2_2_01_01 none q k)
    (broadcastInDim S4x8x1023x1023 ![] bcast_S_S4x8x1023x1023
      (Host.sqrt (constant S_ .f32 0x42800000#32) : FVec Ideal S_ .f32))
  select (broadcastInDim S4x8x1023x1023 ![0, 1, 2, 3] bcast_S1x1x1023x1023_S4x8x1023x1023_0_1_2_3
      (broadcastInDim S1x1x1023x1023 ![2, 3] bcast_S1023x1023_S1x1x1023x1023_2_3 mk))
    s (broadcastInDim S4x8x1023x1023 ![] bcast_S_S4x8x1023x1023 (constant (F := Ideal) S_ .f32 0xFF800000#32))

/-- The maximum of every row of scores. -/
def mxR (w : FVec Ideal S4x8x1023x1023 .f32) : FVec Ideal S4x8x1023 .f32 := maximumf
  (broadcastInDim S4x8x1023 ![] bcast_S_S4x8x1023 (constant (F := Ideal) S_ .f32 0xFF800000#32))
  (Host.reduce FloatOps.maximumf w (constant S_ .f32 0xFF800000#32) reducesTo_S4x8x1023x1023_S4x8x1023_d3 h_S_)

/-- The exponentials of the scores below the maximum. -/
def eR (w : FVec Ideal S4x8x1023x1023 .f32) (mx : FVec Ideal S4x8x1023 .f32) : FVec Ideal S4x8x1023x1023 .f32 :=
  Host.exp (subf w (broadcastInDim S4x8x1023x1023 ![0, 1, 2, 3] bcast_S4x8x1023x1_S4x8x1023x1023_0_1_2_3
    (broadcastInDim S4x8x1023x1 ![0, 1, 2] bcast_S4x8x1023_S4x8x1023x1_0_1_2 mx)))

/-- The exponentials over their sum. -/
def pR (e : FVec Ideal S4x8x1023x1023 .f32) : FVec Ideal S4x8x1023x1023 .f32 :=
  Host.divf e (broadcastInDim S4x8x1023x1023 ![0, 1, 2, 3] bcast_S4x8x1023x1_S4x8x1023x1023_0_1_2_3
    (broadcastInDim S4x8x1023x1 ![0, 1, 2] bcast_S4x8x1023_S4x8x1023x1_0_1_2
      (Host.reduceAdd e (constant S_ .f32 0x00000000#32) reducesTo_S4x8x1023x1023_S4x8x1023_d3 h_S_)))

/-- The weights times the values. -/
def ovR (p : FVec Ideal S4x8x1023x1023 .f32) (v : FVec Ideal S4x8x1023x64 .f32) : FVec Ideal S4x8x1023x64 .f32 :=
  Host.dotGeneral dot_S4x8x1023x1023_S4x8x1023x64_S4x8x1023x64_3_2_2_3_01_01 none p v

/-- The softmax of the scores, times the values. -/
def softR (w : FVec Ideal S4x8x1023x1023 .f32) (v : FVec Ideal S4x8x1023x64 .f32) : FVec Ideal S4x8x1023x64 .f32 :=
  ovR (pR (eR w (mxR w))) v

/-- The rows after attention: the rows before it plus the heads through the output weights. -/
def resR (h : FVec Ideal S4x1023x512 .f32) (o : FVec Ideal S4x8x1023x64 .f32) (wo : FVec Ideal S512x512 .f32) :
    FVec Ideal S4x1023x512 .f32 :=
  addf h (Host.dotGeneral dot_S4x1023x512_S512x512_S4x1023x512_2_0_01_1_n_n none
    (shapeCast S4x1023x512 (transpose S4x1023x8x64 [0, 2, 1, 3] o transposes_S4x8x1023x64_S4x1023x8x64_0_2_1_3)
      shapeCasts_S4x1023x8x64_S4x1023x512 : FVec Ideal S4x1023x512 .f32) wo)

/-- The hidden layer of the feed-forward step. -/
def hidR (a : FVec Ideal S4x1023x512 .f32) (w : FVec Ideal S512x2048 .f32) : FVec Ideal S4x1023x2048 .f32 :=
  Host.dotGeneral dot_S4x1023x512_S512x2048_S4x1023x2048_2_0_01_1_n_n none a w

/-- The activation, in its tanh form. -/
def geluR (u : FVec Ideal S4x1023x2048 .f32) : FVec Ideal S4x1023x2048 .f32 :=
  mulf u (mulf (broadcastInDim S4x1023x2048 ![] bcast_S_S4x1023x2048 (constant (F := Ideal) S_ .f32 0x3F000000#32))
    (addf (broadcastInDim S4x1023x2048 ![] bcast_S_S4x1023x2048 (constant (F := Ideal) S_ .f32 0x3F800000#32))
      (Host.tanh (mulf (broadcastInDim S4x1023x2048 ![] bcast_S_S4x1023x2048 (constant (F := Ideal) S_ .f32 0x3F4C422A#32))
        (addf u (mulf (broadcastInDim S4x1023x2048 ![] bcast_S_S4x1023x2048 (constant (F := Ideal) S_ .f32 0x3D372713#32))
          (mulf (mulf u u) u)))))))

/-- The rows after the feed-forward step. -/
def outR (h : FVec Ideal S4x1023x512 .f32) (u : FVec Ideal S4x1023x2048 .f32) (w : FVec Ideal S2048x512 .f32) :
    FVec Ideal S4x1023x512 .f32 :=
  addf h (Host.dotGeneral dot_S4x1023x2048_S2048x512_S4x1023x512_2_0_01_1_n_n none u w)

/-- The attention half of a layer. -/
def attnR (mk : IVec S1023x1023 1) (h : FVec Ideal S4x1023x512 .f32) (x : FVec Ideal S4x1023x1536 .f32) (wo : FVec Ideal S512x512 .f32) :
    FVec Ideal S4x1023x512 .f32 :=
  resR h (softR (scoreR mk (qR x) (kR x)) (vR x)) wo

/-- A whole layer. -/
def layerR (mk : IVec S1023x1023 1) (h : FVec Ideal S4x1023x512 .f32) (g1 : FVec Ideal S512 .f32) (wq : FVec Ideal S512x1536 .f32)
    (wo : FVec Ideal S512x512 .f32) (g2 : FVec Ideal S512 .f32) (w1 : FVec Ideal S512x2048 .f32)
    (w2 : FVec Ideal S2048x512 .f32) : FVec Ideal S4x1023x512 .f32 :=
  let h' := attnR mk h (qkvR (lnR h g1) wq) wo
  outR h' (geluR (hidR (lnR h' g2) w1)) w2

/-- The projection to the codebook's dimension. -/
def barR (h : FVec Ideal S4x1023x512 .f32) (w : FVec Ideal S512x13 .f32) : FVec Ideal S4x1023x13 .f32 :=
  Host.dotGeneral dot_S4x1023x512_S512x13_S4x1023x13_2_0_01_1_n_n none h w

/-- Every row over its length. -/
def normR (v : FVec Ideal S4x1023x13 .f32) : FVec Ideal S4x1023x13 .f32 :=
  Host.divf v (broadcastInDim S4x1023x13 ![0, 1, 2] bcast_S4x1023x1_S4x1023x13_0_1_2
    (maximumf (Host.sqrt (broadcastInDim S4x1023x1 ![0, 1] bcast_S4x1023_S4x1023x1_0_1
      (Host.reduceAdd (mulf v v) (constant S_ .f32 0x00000000#32) reducesTo_S4x1023x13_S4x1023_d2 h_S_)))
      (broadcastInDim S4x1023x1 ![] bcast_S_S4x1023x1 (constant (F := Ideal) S_ .f32 0x2B8CBCCC#32))))

/-- A buffer's value after the run from `V`. -/
abbrev E (V : Valuation τ sig (Elt Ideal)) (r : Ref sig .tc) := StableHlo.after refSeq.1 V (Proc.devRef .tc r)

variable (V : Valuation τ sig (Elt Ideal))

/-- The run is its first operations, then the rest. -/
theorem after_drop (i : ℕ) :
    StableHlo.after refSeq.1 V = StableHlo.after (refSeq.1.drop i) (StableHlo.after (refSeq.1.take i) V) := by
  rw [← StableHlo.after_append, List.take_append_drop]

/-- A scale's row for the first layer. -/
def sc0 (w : FVec Ideal S2x512 .f32) : FVec Ideal S512 .f32 :=
  shapeCast S512 (extractStridedSlice S1x512 ![0, 0] w slices_S2x512_S1x512_0_0 : FVec Ideal S1x512 .f32) shapeCasts_S1x512_S512

/-- The projection weights of the first layer. -/
def wq0 (w : FVec Ideal S2x512x1536 .f32) : FVec Ideal S512x1536 .f32 :=
  shapeCast S512x1536 (extractStridedSlice S1x512x1536 ![0, 0, 0] w slices_S2x512x1536_S1x512x1536_0_0_0 : FVec Ideal S1x512x1536 .f32) shapeCasts_S1x512x1536_S512x1536

/-- The output weights of the first layer's attention. -/
def wo0 (w : FVec Ideal S2x512x512 .f32) : FVec Ideal S512x512 .f32 :=
  shapeCast S512x512 (extractStridedSlice S1x512x512 ![0, 0, 0] w slices_S2x512x512_S1x512x512_0_0_0 : FVec Ideal S1x512x512 .f32) shapeCasts_S1x512x512_S512x512

/-- The first feed-forward weights of the first layer. -/
def wi0 (w : FVec Ideal S2x512x2048 .f32) : FVec Ideal S512x2048 .f32 :=
  shapeCast S512x2048 (extractStridedSlice S1x512x2048 ![0, 0, 0] w slices_S2x512x2048_S1x512x2048_0_0_0 : FVec Ideal S1x512x2048 .f32) shapeCasts_S1x512x2048_S512x2048

/-- The second feed-forward weights of the first layer. -/
def wf0 (w : FVec Ideal S2x2048x512 .f32) : FVec Ideal S2048x512 .f32 :=
  shapeCast S2048x512 (extractStridedSlice S1x2048x512 ![0, 0, 0] w slices_S2x2048x512_S1x2048x512_0_0_0 : FVec Ideal S1x2048x512 .f32) shapeCasts_S1x2048x512_S2048x512

/-- A scale's row for the second layer. -/
def sc1 (w : FVec Ideal S2x512 .f32) : FVec Ideal S512 .f32 :=
  shapeCast S512 (extractStridedSlice S1x512 ![1, 0] w slices_S2x512_S1x512_1_0 : FVec Ideal S1x512 .f32) shapeCasts_S1x512_S512

/-- The projection weights of the second layer. -/
def wq1 (w : FVec Ideal S2x512x1536 .f32) : FVec Ideal S512x1536 .f32 :=
  shapeCast S512x1536 (extractStridedSlice S1x512x1536 ![1, 0, 0] w slices_S2x512x1536_S1x512x1536_1_0_0 : FVec Ideal S1x512x1536 .f32) shapeCasts_S1x512x1536_S512x1536

/-- The output weights of the second layer's attention. -/
def wo1 (w : FVec Ideal S2x512x512 .f32) : FVec Ideal S512x512 .f32 :=
  shapeCast S512x512 (extractStridedSlice S1x512x512 ![1, 0, 0] w slices_S2x512x512_S1x512x512_1_0_0 : FVec Ideal S1x512x512 .f32) shapeCasts_S1x512x512_S512x512

/-- The first feed-forward weights of the second layer. -/
def wi1 (w : FVec Ideal S2x512x2048 .f32) : FVec Ideal S512x2048 .f32 :=
  shapeCast S512x2048 (extractStridedSlice S1x512x2048 ![1, 0, 0] w slices_S2x512x2048_S1x512x2048_1_0_0 : FVec Ideal S1x512x2048 .f32) shapeCasts_S1x512x2048_S512x2048

/-- The second feed-forward weights of the second layer. -/
def wf1 (w : FVec Ideal S2x2048x512 .f32) : FVec Ideal S2048x512 .f32 :=
  shapeCast S2048x512 (extractStridedSlice S1x2048x512 ![1, 0, 0] w slices_S2x2048x512_S1x2048x512_1_0_0 : FVec Ideal S1x2048x512 .f32) shapeCasts_S1x2048x512_S2048x512

/-- The layers' input: the projected rows plus the positions. -/
theorem tie32 : (E V main_v32 : FVec Ideal S4x1023x512 .f32) = (addf (E V main_v28 : FVec Ideal S4x1023x512 .f32)
    (broadcastInDim S4x1023x512 ![0, 1, 2] bcast_S1x1023x512_S4x1023x512_0_1_2
      (broadcastInDim S1x1023x512 ![1, 2] bcast_S1023x512_S1x1023x512_1_2
        (extractStridedSlice S1023x512 ![0, 0] (E V main_arg3 : FVec Ideal S1024x512 .f32)
          slices_S1024x512_S1023x512_0_0 : FVec Ideal S1023x512 .f32) : FVec Ideal S1x1023x512 .f32)
      : FVec Ideal S4x1023x512 .f32) : FVec Ideal S4x1023x512 .f32) := by
  unfold E
  rw [after_drop V 84]
  generalize StableHlo.after (refSeq.1.take 84) V = X
  after_reads_simp

/-- The mask's buffer. -/
theorem tie34 : (E V main_v34 : IVec S1023x1023 1) = trilR := by
  unfold E
  rw [after_drop V 88]
  generalize StableHlo.after (refSeq.1.take 88) V = X
  after_reads_simp
  rfl

/-- The first layer. -/
theorem tie137 : (E V main_v137 : FVec Ideal S4x1023x512 .f32) = layerR (E V main_v34) (E V main_v32) (sc0 (E V main_arg6))
    (wq0 (E V main_arg4)) (wo0 (E V main_arg5)) (sc0 (E V main_arg7)) (wi0 (E V main_arg8)) (wf0 (E V main_arg9)) := by
  unfold E
  rw [after_drop V 99]
  generalize StableHlo.after (refSeq.1.take 99) V = X
  after_reads_simp
  rfl

/-- The second layer. -/
theorem tie240 : (E V main_v240 : FVec Ideal S4x1023x512 .f32) = layerR (E V main_v34) (E V main_v137) (sc1 (E V main_arg6))
    (wq1 (E V main_arg4)) (wo1 (E V main_arg5)) (sc1 (E V main_arg7)) (wi1 (E V main_arg8)) (wf1 (E V main_arg9)) := by
  unfold E
  rw [after_drop V 224]
  generalize StableHlo.after (refSeq.1.take 224) V = X
  after_reads_simp
  rfl

/-- The projected rows. -/
theorem tie262 : (E V main_v262 : FVec Ideal S4x1023x13 .f32)
    = barR (lnR (E V main_v240) (E V main_arg10)) (E V main_arg11) := by
  unfold E
  rw [after_drop V 349]
  generalize StableHlo.after (refSeq.1.take 349) V = X
  after_reads_simp
  rfl

/-- The predicted rows, normalised. -/
theorem tie270 : (E V main_v270 : FVec Ideal S4x1023x13 .f32) = normR (E V main_v262) := by
  unfold E
  rw [after_drop V 376]
  generalize StableHlo.after (refSeq.1.take 376) V = X
  after_reads_simp
  rfl
-- ==== Proof.RPoint.lean ====
/- The reference's prior read row by row. -/
module

public import proofs.«01_k».proof.Proof.RBody
public import proofs.«01_k».proof.Proof.Spec
public import Idealize.ShloMosaic.Lib.WordCmp
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

/-- A row of the layernorm. -/
theorem lnR_apply (h : FVec Ideal S4x1023x512 .f32) (g : FVec Ideal S512 .f32) (b : Fin 4) (r : Fin 1023) (j : Fin 512) :
    lnR h g (ix3 b r j) = lnRow (fun k => h (ix3 b r k)) (fun k => g (ix1 k)) j := by
  pointwise [lnR]
  rfl

/-- A row of the projections. -/
theorem qkvR_apply (a : FVec Ideal S4x1023x512 .f32) (w : FVec Ideal S512x1536 .f32) (b : Fin 4) (r : Fin 1023) (j : Fin 1536) :
    qkvR a w (ix3 b r j) = lin (fun k => a (ix3 b r k)) (fun i j => w (ix2 i j)) j := by
  pointwise [qkvR]; rfl

/-- An entry of a head's query. -/
theorem qR_apply (x : FVec Ideal S4x1023x1536 .f32) (b : Fin 4) (n : Fin 8) (r : Fin 1023) (d : Fin 64) :
    qR x (ix4 b n r d) = x (ix3 b r ⟨64 * n + d, by omega⟩) := by
  pointwise [qR, hdR]
  simp only [Nat.mul_comm]

/-- An entry of a head's key. -/
theorem kR_apply (x : FVec Ideal S4x1023x1536 .f32) (b : Fin 4) (n : Fin 8) (r : Fin 1023) (d : Fin 64) :
    kR x (ix4 b n r d) = x (ix3 b r ⟨512 + (64 * n + d), by omega⟩) := by
  pointwise [kR, hdR]
  simp only [Nat.mul_comm]

/-- An entry of a head's value. -/
theorem vR_apply (x : FVec Ideal S4x1023x1536 .f32) (b : Fin 4) (n : Fin 8) (r : Fin 1023) (d : Fin 64) :
    vR x (ix4 b n r d) = x (ix3 b r ⟨1024 + (64 * n + d), by omega⟩) := by
  pointwise [vR, hdR]
  simp only [Nat.mul_comm]

/-- The mask allows the keys up to the query. -/
theorem trilR_apply (r c : Fin 1023) : trilR (ix2 r c) = if (c : ℕ) ≤ r then 1#1 else 0#1 := by
  pointwise [trilR]
  rw [show IntOp.addi (BitVec.ofNat 32 (r : ℕ)) 0#32 = BitVec.ofNat 32 (r : ℕ) from BitVec.add_zero _,
    WordCmp.cmpi_sge_ofNat (by omega) (by omega), Scalar.select]
  by_cases h : (c : ℕ) ≤ r <;> simp [h]

/-- A masked score. -/
theorem scoreR_apply (q k : FVec Ideal S4x8x1023x64 .f32) (b : Fin 4) (n : Fin 8) (r c : Fin 1023) :
    scoreR trilR q k (ix4 b n r c)
      = if (c : ℕ) ≤ r then score (fun d => q (ix4 b n r d)) (fun d => k (ix4 b n c d)) else ⊥ := by
  pointwise [scoreR]
  rw [trilR_apply, Scalar.select]
  by_cases h : (c : ℕ) ≤ r
  · rw [if_pos h, if_pos h]; rfl
  · rw [if_neg h, if_neg h]; exact cNegInf

/-- A maximum over the last of four axes, at an index. -/
theorem hostMax4 {n0 n1 n2 n3 : ℕ} (c : BitVec 32) (w : FVec Ideal ⟨4, ![n0, n1, n2, n3]⟩ .f32)
    (h : (⟨4, ![n0, n1, n2, n3]⟩ : Shape).ReducesTo [3] (⟨3, ![n0, n1, n2]⟩ : Shape)) (hu : 0 < (⟨0, ![]⟩ : Shape).numel)
    (i : Fin n0) (j : Fin n1) (k : Fin n2) :
    Host.reduce FloatOps.maximumf w (constant (⟨0, ![]⟩ : Shape) .f32 c) h hu (ix3 i j k)
      = Finset.univ.fold max (Ideal.ofBits .f32 c) fun l => w (ix4 i j k l) := by
  rw [Host.reduce_eq_fold, Shape.ReducesTo.fold_fiber_r4_a3]
  rfl

/-- A maximum over the last of three axes, at an index. -/
theorem hostMax3 {n0 n1 n2 : ℕ} (c : BitVec 32) (w : FVec Ideal ⟨3, ![n0, n1, n2]⟩ .f32)
    (h : (⟨3, ![n0, n1, n2]⟩ : Shape).ReducesTo [2] (⟨2, ![n0, n1]⟩ : Shape)) (hu : 0 < (⟨0, ![]⟩ : Shape).numel)
    (i : Fin n0) (j : Fin n1) :
    Host.reduce FloatOps.maximumf w (constant (⟨0, ![]⟩ : Shape) .f32 c) h hu (ix2 i j)
      = Finset.univ.fold max (Ideal.ofBits .f32 c) fun l => w (ix3 i j l) := by
  rw [Host.reduce_eq_fold, Shape.ReducesTo.fold_fiber_r3_a2]
  rfl

/-- The elementwise maximum at an index. -/
theorem max_at {s : Shape} (x y : FVec Ideal s .f32) (i : s.Idx) : maximumf x y i = max (x i) (y i) := rfl

/-- A maximum over the keys, at a query. -/
theorem rowMax (w : FVec Ideal S4x8x1023x1023 .f32) (b : Fin 4) (n : Fin 8) (r : Fin 1023) :
    Host.reduce FloatOps.maximumf w (constant S_ .f32 0xFF800000#32) reducesTo_S4x8x1023x1023_S4x8x1023_d3 h_S_
      (ix3 b n r) = Finset.univ.fold max (Ideal.ofBits .f32 0xFF800000#32) fun k => w (ix4 b n r k) :=
  hostMax4 _ w reducesTo_S4x8x1023x1023_S4x8x1023_d3 h_S_ b n r

/-- The maximum of a row of scores. -/
theorem mxR_apply (w : FVec Ideal S4x8x1023x1023 .f32) (b : Fin 4) (n : Fin 8) (r : Fin 1023) :
    mxR w (ix3 b n r) = max (Ideal.ofBits .f32 0xFF800000#32)
      (Finset.univ.fold max (Ideal.ofBits .f32 0xFF800000#32) fun k => w (ix4 b n r k)) := by
  unfold mxR
  rw [max_at, rowMax]
  rfl

/-- An exponential. -/
theorem eR_apply (w : FVec Ideal S4x8x1023x1023 .f32) (mx : FVec Ideal S4x8x1023 .f32) (b : Fin 4) (n : Fin 8)
    (r c : Fin 1023) : eR w mx (ix4 b n r c) = Ideal.exp (w (ix4 b n r c) - mx (ix3 b n r)) := by
  pointwise [eR]

/-- A weight. -/
theorem pR_apply (e : FVec Ideal S4x8x1023x1023 .f32) (b : Fin 4) (n : Fin 8) (r c : Fin 1023) :
    pR e (ix4 b n r c) = Ideal.div (e (ix4 b n r c)) (∑ k, e (ix4 b n r k)) := by
  pointwise [pR]

/-- A weighted sum of values. -/
theorem ovR_apply (p : FVec Ideal S4x8x1023x1023 .f32) (v : FVec Ideal S4x8x1023x64 .f32) (b : Fin 4) (n : Fin 8)
    (r : Fin 1023) (d : Fin 64) : ovR p v (ix4 b n r d) = ∑ k, p (ix4 b n r k) * v (ix4 b n k d) := by
  pointwise [ovR]

/-- A row of the softmax times the values. -/
theorem softR_apply (w : FVec Ideal S4x8x1023x1023 .f32) (v : FVec Ideal S4x8x1023x64 .f32) (b : Fin 4) (n : Fin 8)
    (r : Fin 1023) (d : Fin 64) :
    softR w v (ix4 b n r d) = attn (fun k => w (ix4 b n r k)) (fun k => v (ix4 b n k d)) := by
  unfold softR attn
  simp only [ovR_apply, pR_apply, eR_apply, mxR_apply]

/-- A row of the output projection. -/
theorem resR_apply (h : FVec Ideal S4x1023x512 .f32) (o : FVec Ideal S4x8x1023x64 .f32) (wo : FVec Ideal S512x512 .f32)
    (b : Fin 4) (r : Fin 1023) (j : Fin 512) :
    resR h o wo (ix3 b r j) = h (ix3 b r j)
      + lin (fun k : Fin 512 => o (ix4 b ⟨k / 64, by omega⟩ r ⟨k % 64, by omega⟩)) (fun i j => wo (ix2 i j)) j := by
  pointwise [resR]
  rfl

/-- A row of the hidden layer. -/
theorem hidR_apply (a : FVec Ideal S4x1023x512 .f32) (w : FVec Ideal S512x2048 .f32) (b : Fin 4) (r : Fin 1023) (j : Fin 2048) :
    hidR a w (ix3 b r j) = lin (fun k => a (ix3 b r k)) (fun i j => w (ix2 i j)) j := by
  pointwise [hidR]; rfl

/-- An entry of the activation. -/
theorem geluR_apply (u : FVec Ideal S4x1023x2048 .f32) (b : Fin 4) (r : Fin 1023) (j : Fin 2048) :
    geluR u (ix3 b r j) = gelu (u (ix3 b r j)) := by
  pointwise [geluR]
  rw [mul_comm (u (ix3 b r j) * u (ix3 b r j))]
  rfl

/-- A row of the second feed-forward step. -/
theorem outR_apply (h : FVec Ideal S4x1023x512 .f32) (u : FVec Ideal S4x1023x2048 .f32) (w : FVec Ideal S2048x512 .f32)
    (b : Fin 4) (r : Fin 1023) (j : Fin 512) :
    outR h u w (ix3 b r j) = h (ix3 b r j) + lin (fun k => u (ix3 b r k)) (fun i j => w (ix2 i j)) j := by
  pointwise [outR]; rfl

/-- A row of the output vectors. -/
theorem barR_apply (h : FVec Ideal S4x1023x512 .f32) (w : FVec Ideal S512x13 .f32) (b : Fin 4) (r : Fin 1023) (j : Fin 13) :
    barR h w (ix3 b r j) = lin (fun k => h (ix3 b r k)) (fun i j => w (ix2 i j)) j := by
  pointwise [barR]; rfl

/-- A normalised row. -/
theorem normR_apply (v : FVec Ideal S4x1023x13 .f32) (b : Fin 4) (r : Fin 1023) (j : Fin 13) :
    normR v (ix3 b r j) = normRow (fun k => v (ix3 b r k)) j := by
  pointwise [normR]
  rfl

/-- A scale of the first layer, at an index. -/
theorem sc0_apply (w : FVec Ideal S2x512 .f32) (i : Fin 512) : sc0 w (ix1 i) = w (ix2 0 i) := by
  pointwise [sc0]

/-- The projection weights of the first layer, at an index. -/
theorem wq0_apply (w : FVec Ideal S2x512x1536 .f32) (i : Fin 512) (j : Fin 1536) : wq0 w (ix2 i j) = w (ix3 0 i j) := by
  pointwise [wq0]

/-- The output weights of the first layer, at an index. -/
theorem wo0_apply (w : FVec Ideal S2x512x512 .f32) (i : Fin 512) (j : Fin 512) : wo0 w (ix2 i j) = w (ix3 0 i j) := by
  pointwise [wo0]

/-- The first feed-forward weights of the first layer, at an index. -/
theorem wi0_apply (w : FVec Ideal S2x512x2048 .f32) (i : Fin 512) (j : Fin 2048) : wi0 w (ix2 i j) = w (ix3 0 i j) := by
  pointwise [wi0]

/-- The second feed-forward weights of the first layer, at an index. -/
theorem wf0_apply (w : FVec Ideal S2x2048x512 .f32) (i : Fin 2048) (j : Fin 512) : wf0 w (ix2 i j) = w (ix3 0 i j) := by
  pointwise [wf0]

/-- A scale of the second layer, at an index. -/
theorem sc1_apply (w : FVec Ideal S2x512 .f32) (i : Fin 512) : sc1 w (ix1 i) = w (ix2 1 i) := by
  pointwise [sc1]

/-- The projection weights of the second layer, at an index. -/
theorem wq1_apply (w : FVec Ideal S2x512x1536 .f32) (i : Fin 512) (j : Fin 1536) : wq1 w (ix2 i j) = w (ix3 1 i j) := by
  pointwise [wq1]

/-- The output weights of the second layer, at an index. -/
theorem wo1_apply (w : FVec Ideal S2x512x512 .f32) (i : Fin 512) (j : Fin 512) : wo1 w (ix2 i j) = w (ix3 1 i j) := by
  pointwise [wo1]

/-- The first feed-forward weights of the second layer, at an index. -/
theorem wi1_apply (w : FVec Ideal S2x512x2048 .f32) (i : Fin 512) (j : Fin 2048) : wi1 w (ix2 i j) = w (ix3 1 i j) := by
  pointwise [wi1]

/-- The second feed-forward weights of the second layer, at an index. -/
theorem wf1_apply (w : FVec Ideal S2x2048x512 .f32) (i : Fin 2048) (j : Fin 512) : wf1 w (ix2 i j) = w (ix3 1 i j) := by
  pointwise [wf1]

/-- A layer's weights. -/
def layR (g1 : FVec Ideal S512 .f32) (wq : FVec Ideal S512x1536 .f32) (wo : FVec Ideal S512x512 .f32)
    (g2 : FVec Ideal S512 .f32) (w1 : FVec Ideal S512x2048 .f32) (w2 : FVec Ideal S2048x512 .f32) : Layer where
  g1 j := g1 (ix1 j)
  wq i j := wq (ix2 i j)
  wo i j := wo (ix2 i j)
  g2 j := g2 (ix1 j)
  w1 i j := w1 (ix2 i j)
  w2 i j := w2 (ix2 i j)

/-- A head of a row. -/
theorem head_row (x : FVec Ideal S4x1023x1536 .f32) (b : Fin 4) (X : ℕ → Fin 1536 → EReal)
    (hX : ∀ (r : Fin 1023) c, x (ix3 b r c) = X r c)
    (hs : ∀ j t k, IsReal (score (qOf (X t) j) (kOf (X k) j))) (r : Fin 1023) (j : Fin 512) :
    softR (scoreR trilR (qR x) (kR x)) (vR x) (ix4 b ⟨j / 64, by omega⟩ r ⟨j % 64, by omega⟩) = oRow X r j := by
  rw [softR_apply]
  refine attn_trunc r.2 _ _ _ _ (fun k _ => hs j r k) (fun c => ?_) fun c _ => ?_
  · rw [scoreR_apply]
    simp only [qR_apply, kR_apply, hX]
    rfl
  · rw [vR_apply, hX]
    exact congrArg (X c) (Fin.ext (by simp only []; omega))

/-- The rows after a layer are the model's rows. -/
theorem layerR_row (h : FVec Ideal S4x1023x512 .f32) (g1 : FVec Ideal S512 .f32) (wq : FVec Ideal S512x1536 .f32)
    (wo : FVec Ideal S512x512 .f32) (g2 : FVec Ideal S512 .f32) (w1 : FVec Ideal S512x2048 .f32)
    (w2 : FVec Ideal S2048x512 .f32) (hg : ∀ j, IsReal (g1 (ix1 j))) (hw : ∀ i (j : Fin 1536), (j : ℕ) < 1024 → IsReal (wq (ix2 i j)))
    (b : Fin 4) (H : ℕ → Fin 512 → EReal) (hH : ∀ (r : Fin 1023) j, h (ix3 b r j) = H r j) (r : Fin 1023) (j : Fin 512) :
    layerR trilR h g1 wq wo g2 w1 w2 (ix3 b r j) = layerRow (layR g1 wq wo g2 w1 w2) H r j := by
  have hx : ∀ (r : Fin 1023) c, qkvR (lnR h g1) wq (ix3 b r c) = xRow (layR g1 wq wo g2 w1 w2) H r c := by
    intro r c
    rw [qkvR_apply]
    simp only [lnR_apply, hH]
    rfl
  have hs := fun j t k => scores_real (layR g1 wq wo g2 w1 w2) hg hw H t k j
  have hh : ∀ (r : Fin 1023) c, attnR trilR h (qkvR (lnR h g1) wq) wo (ix3 b r c) = hRow (layR g1 wq wo g2 w1 w2) H r c := by
    intro r c
    unfold attnR
    simp only [resR_apply, head_row _ b _ hx hs, hH]
    rfl
  unfold layerR
  simp only [outR_apply, geluR_apply, hidR_apply, lnR_apply, hh]
  rfl

end Cert.ReferenceIdeal.Hand
-- ==== Proof.RLoss.lean ====
/- The reference's code lookup and its prior loss: the operations as functions, tied to the run, and read at an index. -/
module

public import proofs.«01_k».proof.Proof.RPoint
public import Idealize.ShloMosaic.Lib.ReduceAll

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

/-- The codebook's rows over their lengths. -/
def cbR (w : FVec Ideal S8192x13 .f32) : FVec Ideal S8192x13 .f32 :=
  Host.divf w (broadcastInDim S8192x13 ![0, 1] bcast_S8192x1_S8192x13_0_1
    (maximumf (Host.sqrt (broadcastInDim S8192x1 ![0] bcast_S8192_S8192x1_0
      (Host.reduceAdd (mulf w w) (constant S_ .f32 0x00000000#32) reducesTo_S8192x13_S8192_d1 h_S_)))
      (broadcastInDim S8192x1 ![] bcast_S_S8192x1 (constant (F := Ideal) S_ .f32 0x2B8CBCCC#32))))

/-- The index of the greatest similarity of every row. -/
def argR (s : FVec Ideal S4x1024x8192 .f32) : IVec S4x1024 32 := fun j =>
  (Host.argReduce (reducer_argmax_f32_i32 (F := Ideal)) s (iotaInDim S4x1024x8192 32 2) (constant (F := Ideal) S_ .f32 0xFF800000#32)
    (constantI S_ 32 0#32) reducesTo_S4x1024x8192_S4x1024_d2 h_S_ j).2

/-- The wrapped indices of a lookup. -/
def wrapR (i : IVec S4x1024 32) : IVec S4x1024x1 32 :=
  broadcastInDim S4x1024x1 ![0, 1] bcast_S4x1024_S4x1024x1_0_1
    (select (cmpi .slt i (broadcastInDim S4x1024 ![] bcast_S_S4x1024 (constantI S_ 32 0#32)))
      (addi i (broadcastInDim S4x1024 ![] bcast_S_S4x1024 (constantI S_ 32 8192#32))) i)

/-- The rows looked up at wrapped indices. -/
def takeR (x : FVec Ideal S8192x13 .f32) (i : IVec S4x1024x1 32) : FVec Ideal S4x1024x13 .f32 :=
  select (broadcastInDim S4x1024x13 ![0, 1] bcast_S4x1024_S4x1024x13_0_1
    (Host.reduce IntOp.andi (andi (cmpi .sge i (broadcastInDim S4x1024x1 ![] bcast_S_S4x1024x1 (constantI S_ 32 0#32)))
      (cmpi .sle i (broadcastInDim S4x1024x1 ![0, 1, 2] bcast_S1x1x1_S4x1024x1_0_1_2
        (broadcastInDim S1x1x1 ![2] bcast_S1_S1x1x1_2 (constantI S1 32 8191#32)))))
      (constantI S_ 1 1#1) reducesTo_S4x1024x1_S4x1024_d2 h_S_))
    (Host.gather gather_S8192x13_S4x1024x1_S4x1024x13_2_0_n_n_0_2_113 x i)
    (broadcastInDim S4x1024x13 ![] bcast_S_S4x1024x13 (constant (F := Ideal) S_ .f32 0x7FC00000#32))

/-- The logits. -/
def logitsR (v : FVec Ideal S4x1023x13 .f32) (w : FVec Ideal S8192x13 .f32) : FVec Ideal S4x1023x8192 .f32 :=
  Host.dotGeneral dot_S4x1023x13_S8192x13_S4x1023x8192_2_1_01_0_n_n none v w

/-- The next position's index. -/
def nextR (i : IVec S4x1024 32) : IVec S4x1023x1 32 :=
  broadcastInDim S4x1023x1 ![0, 1] bcast_S4x1023_S4x1023x1_0_1
    (extractStridedSlice S4x1023 ![0, 1] i slices_S4x1024_S4x1023_0_1 : IVec S4x1023 32)

/-- The greatest logit of every row. -/
def lmxR (l : FVec Ideal S4x1023x8192 .f32) : FVec Ideal S4x1023 .f32 :=
  maximumf (broadcastInDim S4x1023 ![] bcast_S_S4x1023 (constant (F := Ideal) S_ .f32 0xFF800000#32))
    (Host.reduce FloatOps.maximumf l (constant (F := Ideal) S_ .f32 0xFF800000#32) reducesTo_S4x1023x8192_S4x1023_d2 h_S_)

/-- The logits less their row's greatest. -/
def shiftR (l : FVec Ideal S4x1023x8192 .f32) (m : FVec Ideal S4x1023 .f32) : FVec Ideal S4x1023x8192 .f32 :=
  subf l (broadcastInDim S4x1023x8192 ![0, 1, 2] bcast_S4x1023x1_S4x1023x8192_0_1_2
    (broadcastInDim S4x1023x1 ![0, 1] bcast_S4x1023_S4x1023x1_0_1 m))

/-- The exponentials of shifted logits. -/
def expR (s : FVec Ideal S4x1023x8192 .f32) : FVec Ideal S4x1023x8192 .f32 := Host.exp s

/-- The sums of the exponentials. -/
def lsumR (e : FVec Ideal S4x1023x8192 .f32) : FVec Ideal S4x1023 .f32 :=
  Host.reduceAdd e (constant (F := Ideal) S_ .f32 0x00000000#32) reducesTo_S4x1023x8192_S4x1023_d2 h_S_

/-- The log-softmax of shifted logits and the sums of their exponentials. -/
def lsmR (s : FVec Ideal S4x1023x8192 .f32) (z : FVec Ideal S4x1023 .f32) : FVec Ideal S4x1023x8192 .f32 :=
  subf s (broadcastInDim S4x1023x8192 ![0, 1, 2] bcast_S4x1023x1_S4x1023x8192_0_1_2
    (Host.log (broadcastInDim S4x1023x1 ![0, 1] bcast_S4x1023_S4x1023x1_0_1 z)))

/-- The wrapped indices of a lookup along the last axis. -/
def wrapS (n : IVec S4x1023x1 32) : IVec S4x1023x1 32 :=
  select (cmpi .slt n (broadcastInDim S4x1023x1 ![] bcast_S_S4x1023x1 (constantI S_ 32 0#32)))
    (addi n (broadcastInDim S4x1023x1 ![] bcast_S_S4x1023x1 (constantI S_ 32 8192#32))) n

/-- The same with one more unit axis. -/
def wrapA (n : IVec S4x1023x1 32) : IVec S4x1023x1x1 32 := shapeCast S4x1023x1x1 n shapeCasts_S4x1023x1_S4x1023x1x1

/-- The entries looked up along the last axis at wrapped indices. -/
def alongR (x : FVec Ideal S4x1023x8192 .f32) (n : IVec S4x1023x1x1 32) : FVec Ideal S4x1023x1 .f32 :=
  select (Host.reduce IntOp.andi (andi (cmpi .sge n (broadcastInDim S4x1023x1x1 ![] bcast_S_S4x1023x1x1 (constantI S_ 32 0#32)))
      (cmpi .sle n (broadcastInDim S4x1023x1x1 ![0, 1, 2, 3] bcast_S1x1x1x1_S4x1023x1x1_0_1_2_3
        (broadcastInDim S1x1x1x1 ![3] bcast_S1_S1x1x1x1_3 (constantI S1 32 8191#32)))))
      (constantI S_ 1 1#1) reducesTo_S4x1023x1x1_S4x1023x1_d3 h_S_)
    (Host.gather gather_S4x1023x8192_S4x1023x1x1_S4x1023x1_n_2_01_01_2_3_111 x n)
    (broadcastInDim S4x1023x1 ![] bcast_S_S4x1023x1 (constant (F := Ideal) S_ .f32 0x7FC00000#32))

/-- The mean of the negated entries. -/
def meanR (t : FVec Ideal S4x1023x1 .f32) : FVec Ideal S_ .f32 :=
  mulf (constant (F := Ideal) S_ .f32 0x3F800000#32) (Host.negf (Host.divf
    (Host.reduceAdd t (constant (F := Ideal) S_ .f32 0x00000000#32) reducesTo_S4x1023x1_S_d0_1_2 h_S_)
    (constant (F := Ideal) S_ .f32 0x457FC000#32)))

variable (V : Valuation τ sig (Elt Ideal))

/-- The normalised codebook. -/
theorem tie15 : (E V main_v15 : FVec Ideal S8192x13 .f32) = cbR (E V main_arg1) := by
  unfold E
  after_reads_simp
  rfl

/-- The nearest codes. -/
theorem tie17 : (E V main_v17 : IVec S4x1024 32) = argR (E V main_v16) := by
  unfold E
  rw [after_drop V 21]
  generalize StableHlo.after (refSeq.1.take 21) V = X
  after_reads_simp
  rfl

end Cert.ReferenceIdeal.Hand
end
-- ==== Proof.RLossT.lean ====
/- The lookups of the reference's run tied to their functions. -/
module

public import proofs.«01_k».proof.Proof.RLoss

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

variable (V : Valuation τ sig (Elt Ideal))

/-- The wrapped codes. -/
theorem tieW18 : (E V main_call1_v5 : IVec S4x1024x1 32) = wrapR (E V main_v17) := by
  unfold E
  rw [after_drop V 26]
  generalize StableHlo.after (refSeq.1.take 26) V = X
  after_reads_simp
  try simp only [StableHlo.TRef.ofBuf_toBuf]
  rfl

/-- The codes' rows. -/
theorem tieT18 : (E V main_v18 : FVec Ideal S4x1024x13 .f32) = takeR (E V main_v15) (E V main_call1_v5) := by
  unfold E
  rw [after_drop V 34]
  generalize StableHlo.after (refSeq.1.take 34) V = X
  after_reads_simp
  try simp only [StableHlo.TRef.ofBuf_toBuf]
  rfl

/-- The logits. -/
theorem tie271 : (E V main_v271 : FVec Ideal S4x1023x8192 .f32) = logitsR (E V main_v270) (E V main_v15) := by
  unfold E
  rw [after_drop V 386]
  generalize StableHlo.after (refSeq.1.take 386) V = X
  after_reads_simp
  try simp only [StableHlo.TRef.ofBuf_toBuf]
  rfl

/-- The greatest logits. -/
theorem tieMx : (E V main_call6_v2 : FVec Ideal S4x1023 .f32) = lmxR (E V main_v271) := by
  unfold E
  rw [after_drop V 388]
  generalize StableHlo.after (refSeq.1.take 388) V = X
  after_reads_simp
  try simp only [StableHlo.TRef.ofBuf_toBuf]
  rfl

/-- The shifted logits. -/
theorem tieSh : (E V main_call6_v5 : FVec Ideal S4x1023x8192 .f32) = shiftR (E V main_v271) (E V main_call6_v2) := by
  unfold E
  rw [after_drop V 393]
  generalize StableHlo.after (refSeq.1.take 393) V = X
  after_reads_simp
  try simp only [StableHlo.TRef.ofBuf_toBuf]
  rfl

/-- The exponentials. -/
theorem tieEx : (E V main_call6_v6 : FVec Ideal S4x1023x8192 .f32) = expR (E V main_call6_v5) := by
  unfold E
  rw [after_drop V 396]
  generalize StableHlo.after (refSeq.1.take 396) V = X
  after_reads_simp
  try simp only [StableHlo.TRef.ofBuf_toBuf]
  rfl

/-- The sums of the exponentials. -/
theorem tieSm : (E V main_call6_v7 : FVec Ideal S4x1023 .f32) = lsumR (E V main_call6_v6) := by
  unfold E
  rw [after_drop V 397]
  generalize StableHlo.after (refSeq.1.take 397) V = X
  after_reads_simp
  try simp only [StableHlo.TRef.ofBuf_toBuf]
  rfl

/-- The log-softmax. -/
theorem tie273 : (E V main_v273 : FVec Ideal S4x1023x8192 .f32) = lsmR (E V main_call6_v5) (E V main_call6_v7) := by
  unfold E
  rw [after_drop V 399]
  generalize StableHlo.after (refSeq.1.take 399) V = X
  after_reads_simp
  try simp only [StableHlo.TRef.ofBuf_toBuf]
  rfl

/-- The next positions' codes. -/
theorem tie274 : (E V main_v274 : IVec S4x1023x1 32) = nextR (E V main_v17) := by
  unfold E
  rw [after_drop V 387]
  generalize StableHlo.after (refSeq.1.take 387) V = X
  after_reads_simp
  try simp only [StableHlo.TRef.ofBuf_toBuf]
  rfl

/-- The wrapped next codes. -/
theorem tieS275 : (E V main_call7_v4 : IVec S4x1023x1 32) = wrapS (E V main_v274) := by
  unfold E
  rw [after_drop V 404]
  generalize StableHlo.after (refSeq.1.take 404) V = X
  after_reads_simp
  try simp only [StableHlo.TRef.ofBuf_toBuf]
  rfl

/-- The wrapped next codes with one more unit axis. -/
theorem tieW275 : (E V main_call7_v5 : IVec S4x1023x1x1 32) = wrapA (E V main_call7_v4) := by
  unfold E
  rw [after_drop V 411]
  generalize StableHlo.after (refSeq.1.take 411) V = X
  after_reads_simp
  try simp only [StableHlo.TRef.ofBuf_toBuf]
  rfl

/-- The looked-up entries. -/
theorem tie275 : (E V main_v275 : FVec Ideal S4x1023x1 .f32) = alongR (E V main_v273) (E V main_call7_v5) := by
  unfold E
  rw [after_drop V 412]
  generalize StableHlo.after (refSeq.1.take 412) V = X
  after_reads_simp
  try simp only [StableHlo.TRef.ofBuf_toBuf]
  rfl

/-- The prior loss. -/
theorem tie279 : (E V main_v279 : FVec Ideal S_ .f32) = meanR (E V main_v275) := by
  unfold E
  rw [after_drop V 426]
  generalize StableHlo.after (refSeq.1.take 426) V = X
  after_reads_simp
  try simp only [StableHlo.TRef.ofBuf_toBuf]
  rfl

end Cert.ReferenceIdeal.Hand
end
-- ==== Proof.RLossP.lean ====
/- The reference's code lookup and prior loss, read at an index. -/
module

public import proofs.«01_k».proof.Proof.RLoss
public import Idealize.ShloMosaic.Lib.WordCmp

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

/-- A row of the codebook over its length. -/
theorem cbR_apply (w : FVec Ideal S8192x13 .f32) (k : Fin 8192) (d : Fin 13) :
    cbR w (ix2 k d) = normRow (fun d => w (ix2 k d)) d := by
  pointwise [cbR]; rfl

/-- A logit. -/
theorem logitsR_apply (v : FVec Ideal S4x1023x13 .f32) (w : FVec Ideal S8192x13 .f32) (b : Fin 4) (r : Fin 1023) (k : Fin 8192) :
    logitsR v w (ix3 b r k) = ∑ d, v (ix3 b r d) * w (ix2 k d) := by
  pointwise [logitsR]

/-- The next position's code. -/
theorem nextR_apply (i : IVec S4x1024 32) (b : Fin 4) (r : Fin 1023) :
    nextR i (ix3 b r 0) = i (ix2 b ⟨1 + r, by omega⟩) := by
  pointwise [nextR]

/-- The greatest logit of a row. -/
theorem lmxR_apply (l : FVec Ideal S4x1023x8192 .f32) (b : Fin 4) (r : Fin 1023) :
    lmxR l (ix2 b r) = max (Ideal.ofBits .f32 0xFF800000#32)
      (Finset.univ.fold max (Ideal.ofBits .f32 0xFF800000#32) fun k => l (ix3 b r k)) := by
  unfold lmxR
  rw [max_at, hostMax3 0xFF800000#32 l reducesTo_S4x1023x8192_S4x1023_d2 h_S_ b r]
  rfl

/-- A shifted logit. -/
theorem shiftR_apply (l : FVec Ideal S4x1023x8192 .f32) (m : FVec Ideal S4x1023 .f32) (b : Fin 4) (r : Fin 1023) (k : Fin 8192) :
    shiftR l m (ix3 b r k) = l (ix3 b r k) - m (ix2 b r) := by
  pointwise [shiftR]

/-- An exponential. -/
theorem expR_apply (s : FVec Ideal S4x1023x8192 .f32) (b : Fin 4) (r : Fin 1023) (k : Fin 8192) :
    expR s (ix3 b r k) = Ideal.exp (s (ix3 b r k)) := by
  pointwise [expR]

/-- A sum of exponentials. -/
theorem lsumR_apply (e : FVec Ideal S4x1023x8192 .f32) (b : Fin 4) (r : Fin 1023) :
    lsumR e (ix2 b r) = ∑ k, e (ix3 b r k) := by
  pointwise [lsumR]

/-- A log-probability. -/
theorem lsmR_apply (s : FVec Ideal S4x1023x8192 .f32) (z : FVec Ideal S4x1023 .f32) (b : Fin 4) (r : Fin 1023) (k : Fin 8192) :
    lsmR s z (ix3 b r k) = s (ix3 b r k) - Ideal.log (z (ix2 b r)) := by
  pointwise [lsmR]

/-- The mean of the negated entries. -/
theorem meanR_apply (t : FVec Ideal S4x1023x1 .f32) (i : S_.Idx) :
    meanR t i = Ideal.ofBits .f32 0x3F800000#32 * -(Ideal.div (∑ b : Fin 4, ∑ r : Fin 1023, t (ix3 b r 0)) (Ideal.ofBits .f32 0x457FC000#32)) := by
  pointwise [meanR]
  simp only [Fin.sum_univ_one]

/-- An index in range is not wrapped. -/
theorem wrap_word (n : BitVec 32) (h : n.toNat < 8192) :
    Scalar.select (IntOp.cmpi .slt n 0#32) (IntOp.addi n 8192#32) n = n := by
  rw [WordCmp.cmpi_slt_zero, decide_eq_false (by norm_num; omega)]
  rfl

/-- An index in range is at least zero and at most the last. -/
theorem in_range (n : BitVec 32) (h : n.toNat < 8192) :
    IntOp.andi (IntOp.cmpi .sge n 0#32) (IntOp.cmpi .sle n 8191#32) = 1#1 := by
  rw [WordCmp.cmpi_sge_zero, decide_eq_true (by norm_num; omega), WordCmp.cmpi_sle_of_lt (by norm_num; omega) (by decide),
    decide_eq_true (by show n.toNat ≤ 8191; omega)]
  rfl

/-- A word below the half, read signed. -/
theorem toInt_word (n : BitVec 32) (h : n.toNat < 8192) : n.toInt.toNat = n.toNat := by
  rw [WordCmp.toInt_eq_toNat_of_lt_half (by norm_num; omega)]; rfl

/-- Wrapped indices in range. -/
theorem wrapS_apply (n : IVec S4x1023x1 32) (b : Fin 4) (r : Fin 1023) (h : (n (ix3 b r 0)).toNat < 8192) :
    wrapS n (ix3 b r 0) = n (ix3 b r 0) := by
  pointwise [wrapS]
  exact wrap_word _ h

/-- Wrapped indices with one more unit axis. -/
theorem wrapA_apply (n : IVec S4x1023x1 32) (b : Fin 4) (r : Fin 1023) :
    wrapA n (ix4 b r 0 0) = n (ix3 b r 0) := by
  pointwise [wrapA]

/-- Wrapped codes in range. -/
theorem wrapR_apply (n : IVec S4x1024 32) (b : Fin 4) (r : Fin 1024) (h : (n (ix2 b r)).toNat < 8192) :
    wrapR n (ix3 b r 0) = n (ix2 b r) := by
  pointwise [wrapR]
  exact wrap_word _ h

/-- The rows gathered. -/
theorem gather_rows (x : FVec Ideal S8192x13 .f32) (i : IVec S4x1024x1 32) (b : Fin 4) (r : Fin 1024) (d : Fin 13)
    (h : (i (ix3 b r 0)).toNat < 8192) :
    Host.gather gather_S8192x13_S4x1024x1_S4x1024x13_2_0_n_n_0_2_113 x i (ix3 b r d) = x (ix2 ⟨(i (ix3 b r 0)).toNat, h⟩ d) := by
  unfold Host.gather
  congr 1
  funext a
  refine Fin.ext ?_
  show GatherDims.start _ _ i a + GatherDims.batchCoord _ _ a + GatherDims.offCoord _ _ a = _
  rw [GatherDims.batchCoord_eq_zero _ _ _ (fun h => by simp [gather_S8192x13_S4x1024x1_S4x1024x13_2_0_n_n_0_2_113] at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (by exact List.mem_singleton.mpr rfl)]
    have hs : GatherDims.siIdx gather_S8192x13_S4x1024x1_S4x1024x13_2_0_n_n_0_2_113 (ix3 b r d)
        ⟨0, by decide⟩ = ix3 b r 0 := by
      funext c; refine Fin.ext ?_
      match c with
      | ⟨0, _⟩ => rfl
      | ⟨1, _⟩ => rfl
      | ⟨2, _⟩ => rfl
    refine Eq.trans (congrArg (fun j => min (i j).toInt.toNat 8191) hs) ?_
    show min (i (ix3 b r 0)).toInt.toNat 8191 = (i (ix3 b r 0)).toNat
    rw [toInt_word _ h]; omega
  · unfold GatherDims.start
    rw [dif_neg (by decide)]
    unfold GatherDims.offCoord
    rw [dif_pos (by decide)]
    show 0 + 0 + d.val = d.val
    omega

/-- The entries gathered along the last axis. -/
theorem gather_along (x : FVec Ideal S4x1023x8192 .f32) (n : IVec S4x1023x1x1 32) (b : Fin 4) (r : Fin 1023)
    (h : (n (ix4 b r 0 0)).toNat < 8192) :
    Host.gather gather_S4x1023x8192_S4x1023x1x1_S4x1023x1_n_2_01_01_2_3_111 x n (ix3 b r 0)
      = x (ix3 b r ⟨(n (ix4 b r 0 0)).toNat, h⟩) := by
  unfold Host.gather
  congr 1
  funext a
  refine Fin.ext ?_
  show GatherDims.start _ _ n a + GatherDims.batchCoord _ _ a + GatherDims.offCoord _ _ a = _
  rw [GatherDims.offCoord_eq_zero _ _ _ (by revert a; decide)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide)]
    unfold GatherDims.batchCoord
    rw [dif_pos (by decide)]
    show 0 + b.val + 0 = b.val
    omega
  · rw [GatherDims.start_batching _ _ _ _ (by decide)]
    unfold GatherDims.batchCoord
    rw [dif_pos (by decide)]
    show 0 + r.val + 0 = r.val
    omega
  · rw [GatherDims.batchCoord_eq_zero _ _ _ (by decide)]
    unfold GatherDims.start
    rw [dif_pos (by decide)]
    have hs : GatherDims.siIdx gather_S4x1023x8192_S4x1023x1x1_S4x1023x1_n_2_01_01_2_3_111 (ix3 b r 0)
        ⟨0, by decide⟩ = ix4 b r 0 0 := by
      funext c; refine Fin.ext ?_
      match c with
      | ⟨0, _⟩ => rfl
      | ⟨1, _⟩ => rfl
      | ⟨2, _⟩ => rfl
      | ⟨3, _⟩ => rfl
    refine Eq.trans (congrArg (fun j => min (n j).toInt.toNat 8191) hs) ?_
    show min (n (ix4 b r 0 0)).toInt.toNat 8191 = (n (ix4 b r 0 0)).toNat
    rw [toInt_word _ h]; omega

/-- The codes looked up. -/
theorem takeR_apply (x : FVec Ideal S8192x13 .f32) (i : IVec S4x1024x1 32) (hi : ∀ b r, (i (ix3 b r 0)).toNat < 8192)
    (b : Fin 4) (r : Fin 1024) (d : Fin 13) :
    takeR x i (ix3 b r d) = x (ix2 ⟨(i (ix3 b r 0)).toNat, hi b r⟩ d) := by
  unfold takeR
  rw [← gather_rows x i b r d (hi b r)]
  show Scalar.select _ _ _ = _
  have : ∀ c : BitVec 1, c = 1#1 → ∀ p q : Ideal .f32, Scalar.select c p q = p := by rintro _ rfl p q; rfl
  refine this _ (Host.reduce_andi_one _ _ _ _ _ rfl fun j => ?_) _ _
  have hj : j = ix3 (j 0) (j 1) 0 := by
    funext a; match a with
    | ⟨0, _⟩ => rfl
    | ⟨1, _⟩ => rfl
    | ⟨2, _⟩ => exact Subsingleton.elim (α := Fin 1) _ _
  rw [hj]
  exact in_range _ (hi _ _)

/-- The entries looked up along the last axis. -/
theorem alongR_apply (x : FVec Ideal S4x1023x8192 .f32) (n : IVec S4x1023x1x1 32) (hn : ∀ b r, (n (ix4 b r 0 0)).toNat < 8192)
    (b : Fin 4) (r : Fin 1023) :
    alongR x n (ix3 b r 0) = x (ix3 b r ⟨(n (ix4 b r 0 0)).toNat, hn b r⟩) := by
  unfold alongR
  rw [← gather_along x n b r (hn b r)]
  show Scalar.select _ _ _ = _
  have : ∀ c : BitVec 1, c = 1#1 → ∀ p q : Ideal .f32, Scalar.select c p q = p := by rintro _ rfl p q; rfl
  refine this _ (Host.reduce_andi_one _ _ _ _ _ rfl fun j => ?_) _ _
  have hj : j = ix4 (j 0) (j 1) 0 0 := by
    funext a; match a with
    | ⟨0, _⟩ => rfl
    | ⟨1, _⟩ => rfl
    | ⟨2, _⟩ => exact Subsingleton.elim (α := Fin 1) _ _
    | ⟨3, _⟩ => exact Subsingleton.elim (α := Fin 1) _ _
  rw [hj]
  exact in_range _ (hn _ _)

end Cert.ReferenceIdeal.Hand
end
-- ==== Proof.RLossA.lean ====
/- The reference's nearest code is a row of the codebook. -/
module

public import proofs.«01_k».proof.Proof.RLoss

@[expose] public section

set_option maxRecDepth 16384

noncomputable section

namespace Cert.ReferenceIdeal.Hand

open Idealize.ShloMosaic Idealize.ShloMosaic.TcCoe
open Cert.ReferenceIdeal Cert.ReferenceIdeal.Gen
open Facts

/-- The greater of two pairs keeps its index. -/
theorem argmax_snd (a b : Ideal .f32 × BitVec 32) :
    (reducer_argmax_f32_i32 (F := Ideal) a b).2 = a.2 ∨ (reducer_argmax_f32_i32 (F := Ideal) a b).2 = b.2 := by
  unfold reducer_argmax_f32_i32 Scalar.select
  dsimp only
  split
  · exact Or.inl rfl
  · exact Or.inr rfl

/-- An index property holds of the greatest pair of a list. -/
theorem argmax_fold (P : BitVec 32 → Prop) (l : List (Ideal .f32 × BitVec 32)) (a : Ideal .f32 × BitVec 32) (ha : P a.2)
    (hl : ∀ p ∈ l, P p.2) : P (l.foldl (reducer_argmax_f32_i32 (F := Ideal)) a).2 := by
  induction l generalizing a with
  | nil => exact ha
  | cons p l ih =>
    refine ih _ ?_ fun q hq => hl q (List.mem_cons_of_mem _ hq)
    rcases argmax_snd a p with h | h <;> rw [h]
    · exact ha
    · exact hl p List.mem_cons_self

/-- An index property of every entry and of the initial one holds of the greatest entry's index. -/
theorem argReduce_snd {s t u : Shape} {axes : List (Fin s.rank)} (P : BitVec 32 → Prop) (x : FVec Ideal s .f32) (y : IVec s 32)
    (ix : FVec Ideal u .f32) (iy : IVec u 32) (h : s.ReducesTo axes t) (hu : 0 < u.numel) (j : t.Idx) (hy : ∀ i, P (y i))
    (h0 : ∀ i, P (iy i)) :
    P (Host.argReduce (reducer_argmax_f32_i32 (F := Ideal)) x y ix iy h hu j).2 := by
  rw [Ideal.argReduce_eq_reduce2, Host.reduce2_eq_foldl_fiber]
  refine argmax_fold P _ _ (h0 _) fun p hp => ?_
  unfold Host.argReduceFiber at hp
  obtain ⟨n, -, rfl⟩ := List.mem_map.1 hp
  exact hy _

/-- A coordinate below the codebook's size, as a word. -/
theorem code_word (n : Fin 8192) : (BitVec.ofNat 32 n.val).toNat < 8192 := by
  rw [BitVec.toNat_ofNat]
  exact lt_of_le_of_lt (Nat.mod_le _ _) n.isLt

/-- The index array's words are coordinates. -/
theorem iota_lt (i : S4x1024x8192.Idx) : (iotaInDim S4x1024x8192 32 2 i).toNat < 8192 := by
  unfold iotaInDim
  exact code_word (i 2)

/-- The initial index is a row of the codebook. -/
theorem init_lt : ∀ i : S_.Idx, (constantI S_ 32 0#32 i).toNat < 8192 := by
  intro i; unfold constantI; decide

/-- A greatest entry's index below the codebook's size. -/
theorem arg_lt (s : FVec Ideal S4x1024x8192 .f32) (y : IVec S4x1024x8192 32) (x : FVec Ideal S_ .f32) (z : IVec S_ 32)
    (hy : ∀ i, (y i).toNat < 8192) (hz : ∀ i, (z i).toNat < 8192) (j : S4x1024.Idx) :
    (Host.argReduce (reducer_argmax_f32_i32 (F := Ideal)) s y x z reducesTo_S4x1024x8192_S4x1024_d2 h_S_ j).2.toNat < 8192 :=
  argReduce_snd (fun n => n.toNat < 8192) s y x z reducesTo_S4x1024x8192_S4x1024_d2 h_S_ j hy hz

/-- The same of a function that is that index everywhere. -/
theorem fun_lt (f : IVec S4x1024 32) (s : FVec Ideal S4x1024x8192 .f32) (y : IVec S4x1024x8192 32) (x : FVec Ideal S_ .f32)
    (z : IVec S_ 32) (hy : ∀ i, (y i).toNat < 8192) (hz : ∀ i, (z i).toNat < 8192)
    (hf : f = fun j => (Host.argReduce (reducer_argmax_f32_i32 (F := Ideal)) s y x z reducesTo_S4x1024x8192_S4x1024_d2 h_S_ j).2)
    (j : S4x1024.Idx) : (f j).toNat < 8192 := by
  have h := arg_lt s y x z hy hz j
  rw [hf]
  exact h

/-- A nearest code is a row of the codebook. -/
theorem argR_lt (s : FVec Ideal S4x1024x8192 .f32) (j : S4x1024.Idx) : (argR s j).toNat < 8192 :=
  fun_lt (argR s) s _ _ _ iota_lt init_lt rfl j

end Cert.ReferenceIdeal.Hand
end
-- ==== Proof.RFinal.lean ====
/- The reference's prior loss as a mean of negative log-probabilities. -/
module

public import proofs.«01_k».proof.Proof.RLossT
public import proofs.«01_k».proof.Proof.RLossP
public import proofs.«01_k».proof.Proof.RLossA
public import proofs.«01_k».proof.Proof.Loss

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

variable (V : Valuation τ sig (Elt Ideal))

/-- The codebook's normalised rows. -/
def cbE (k : Fin 8192) (d : Fin 13) : EReal := (E V main_v15 : FVec Ideal S8192x13 .f32) (ix2 k d)

/-- A nearest code is a row of the codebook. -/
theorem idx_lt (j : S4x1024.Idx) : ((E V main_v17 : IVec S4x1024 32) j).toNat < 8192 := by
  rw [tie17]; exact argR_lt _ j

/-- The nearest code of a position. -/
def idxE (b : Fin 4) (r : Fin 1024) : Fin 8192 := ⟨((E V main_v17 : IVec S4x1024 32) (ix2 b r)).toNat, idx_lt V _⟩

/-- Equal words name the same row. -/
theorem same_row (a b : BitVec 32) (ha : a.toNat < 8192) (hb : b.toNat < 8192) (h : a = b) :
    (⟨a.toNat, ha⟩ : Fin 8192) = ⟨b.toNat, hb⟩ := by
  subst h; rfl

/-- The normalised rows are real. -/
theorem cbE_real (k : Fin 8192) (d : Fin 13) : IsReal (cbE V k d) := by
  unfold cbE
  rw [tie15, cbR_apply]
  exact normRow_real _ _

/-- The code looked up at a position. -/
theorem v18_apply (b : Fin 4) (r : Fin 1024) (d : Fin 13) :
    (E V main_v18 : FVec Ideal S4x1024x13 .f32) (ix3 b r d) = cbE V (idxE V b r) d := by
  have hw : ∀ b r, (E V main_call1_v5 : IVec S4x1024x1 32) (ix3 b r 0) = (E V main_v17 : IVec S4x1024 32) (ix2 b r) := by
    intro b r
    rw [tieW18, wrapR_apply _ _ _ (idx_lt V _)]
  have hl : ∀ b r, ((E V main_call1_v5 : IVec S4x1024x1 32) (ix3 b r 0)).toNat < 8192 := by
    intro b r; rw [hw]; exact idx_lt V _
  rw [tieT18, takeR_apply _ _ hl, same_row _ _ (hl b r) (idx_lt V _) (hw b r)]
  rfl

/-- A row of the prior's output. -/
def vE (b : Fin 4) (r : Fin 1023) (d : Fin 13) : EReal := (E V main_v270 : FVec Ideal S4x1023x13 .f32) (ix3 b r d)

/-- A logit. -/
theorem v271_apply (b : Fin 4) (r : Fin 1023) (k : Fin 8192) :
    (E V main_v271 : FVec Ideal S4x1023x8192 .f32) (ix3 b r k) = logits (cbE V) (vE V b r) k := by
  rw [tie271, logitsR_apply]; rfl

/-- A log-probability. -/
theorem v273_apply (hv : ∀ b r d, IsReal (vE V b r d)) (b : Fin 4) (r : Fin 1023) (k : Fin 8192) :
    (E V main_v273 : FVec Ideal S4x1023x8192 .f32) (ix3 b r k) = -nll (logits (cbE V) (vE V b r)) k := by
  rw [← logprob_eq (logits (cbE V) (vE V b r)) (fun k => IsReal.sum _ _ fun d => (hv b r d).mul (cbE_real V k d)) k]
  have hm : (E V main_call6_v2 : FVec Ideal S4x1023 .f32) (ix2 b r)
      = max (Ideal.ofBits .f32 0xFF800000#32) (topOf (logits (cbE V) (vE V b r))) := by
    rw [tieMx, lmxR_apply]
    exact congrArg (fun f : Fin 8192 → EReal => max (Ideal.ofBits .f32 0xFF800000#32)
      (Finset.univ.fold max (Ideal.ofBits .f32 0xFF800000#32) f)) (funext fun k => v271_apply V b r k)
  have hs : ∀ k, (E V main_call6_v5 : FVec Ideal S4x1023x8192 .f32) (ix3 b r k)
      = logits (cbE V) (vE V b r) k - max (Ideal.ofBits .f32 0xFF800000#32) (topOf (logits (cbE V) (vE V b r))) := by
    intro k
    rw [tieSh, shiftR_apply, hm, v271_apply]
  have hz : (E V main_call6_v7 : FVec Ideal S4x1023 .f32) (ix2 b r) = ∑ k, Ideal.exp (logits (cbE V) (vE V b r) k
      - max (Ideal.ofBits .f32 0xFF800000#32) (topOf (logits (cbE V) (vE V b r)))) := by
    have he : ∀ k, (E V main_call6_v6 : FVec Ideal S4x1023x8192 .f32) (ix3 b r k) = Ideal.exp (logits (cbE V) (vE V b r) k
        - max (Ideal.ofBits .f32 0xFF800000#32) (topOf (logits (cbE V) (vE V b r)))) := by
      intro k
      rw [tieEx, expR_apply, hs]
    rw [tieSm, lsumR_apply]
    exact congrArg (fun f : Fin 8192 → EReal => ∑ k, f k) (funext he)
  rw [tie273, lsmR_apply, hs, hz]

/-- The next position's code. -/
theorem next_apply (b : Fin 4) (r : Fin 1023) :
    (E V main_call7_v5 : IVec S4x1023x1x1 32) (ix4 b r 0 0) = (E V main_v17 : IVec S4x1024 32) (ix2 b ⟨1 + r, by omega⟩) := by
  have h : (E V main_v274 : IVec S4x1023x1 32) (ix3 b r 0) = (E V main_v17 : IVec S4x1024 32) (ix2 b ⟨1 + r, by omega⟩) := by
    rw [tie274, nextR_apply]
  have hl : ((E V main_v274 : IVec S4x1023x1 32) (ix3 b r 0)).toNat < 8192 := by rw [h]; exact idx_lt V _
  rw [tieW275, wrapA_apply, tieS275, wrapS_apply _ _ _ hl, h]

/-- The log-probability of the next position's code. -/
theorem v275_apply (hv : ∀ b r d, IsReal (vE V b r d)) (b : Fin 4) (r : Fin 1023) :
    (E V main_v275 : FVec Ideal S4x1023x1 .f32) (ix3 b r 0)
      = -nll (logits (cbE V) (vE V b r)) (idxE V b ⟨1 + r, by omega⟩) := by
  have hl : ∀ b r, ((E V main_call7_v5 : IVec S4x1023x1x1 32) (ix4 b r 0 0)).toNat < 8192 := by
    intro b r; rw [next_apply]; exact idx_lt V _
  rw [tie275, alongR_apply _ _ hl, v273_apply V hv, same_row _ _ (hl b r) (idx_lt V _) (next_apply V b r)]
  rfl

/-- The prior loss: the mean of the negative log-probabilities of the next positions' codes. -/
theorem v279_apply (hv : ∀ b r d, IsReal (vE V b r d)) (i : S_.Idx) :
    (E V main_v279 : FVec Ideal S_ .f32) i = Ideal.ofBits .f32 0x3F800000#32 * Ideal.div
      (∑ b : Fin 4, ∑ r : Fin 1023, nll (logits (cbE V) (vE V b r)) (idxE V b ⟨1 + r, by omega⟩))
      (Ideal.ofBits .f32 0x457FC000#32) := by
  rw [tie279, meanR_apply]
  simp only [v275_apply V hv]
  rw [neg_div_neg]
  exact fun b r => nll_real _ (fun k => IsReal.sum _ _ fun d => (hv b r d).mul (cbE_real V k d)) _

end Cert.ReferenceIdeal.Hand
end
-- ==== Proof.RRows.lean ====
/- The reference's prior, row by row, from its arguments. -/
module

public import proofs.«01_k».proof.Proof.RPoint
public import proofs.«01_k».proof.Proof.Model

@[expose] public section

set_option maxRecDepth 16384

noncomputable section

namespace Cert.ReferenceIdeal.Hand

open Idealize.ShloMosaic Idealize.ShloMosaic.TcCoe
open Cert.ReferenceIdeal Cert.ReferenceIdeal.Gen
open Cert.Spec
open Facts

/-- The first layer's weights. -/
theorem layR0 (wq : FVec Ideal S2x512x1536 .f32) (wo : FVec Ideal S2x512x512 .f32) (g1 g2 : FVec Ideal S2x512 .f32)
    (w1 : FVec Ideal S2x512x2048 .f32) (w2 : FVec Ideal S2x2048x512 .f32) :
    layR (sc0 g1) (wq0 wq) (wo0 wo) (sc0 g2) (wi0 w1) (wf0 w2) = wLayer 0 wq wo g1 g2 w1 w2 := by
  unfold layR wLayer
  simp only [sc0_apply, wq0_apply, wo0_apply, wi0_apply, wf0_apply]

/-- The second layer's weights. -/
theorem layR1 (wq : FVec Ideal S2x512x1536 .f32) (wo : FVec Ideal S2x512x512 .f32) (g1 g2 : FVec Ideal S2x512 .f32)
    (w1 : FVec Ideal S2x512x2048 .f32) (w2 : FVec Ideal S2x2048x512 .f32) :
    layR (sc1 g1) (wq1 wq) (wo1 wo) (sc1 g2) (wi1 w1) (wf1 w2) = wLayer 1 wq wo g1 g2 w1 w2 := by
  unfold layR wLayer
  simp only [sc1_apply, wq1_apply, wo1_apply, wi1_apply, wf1_apply]

/-- Two layers, the last layernorm, the projection and the normalisation give the model's rows. -/
theorem priorR_row (h : FVec Ideal S4x1023x512 .f32) (wq : FVec Ideal S2x512x1536 .f32) (wo : FVec Ideal S2x512x512 .f32)
    (g1 g2 : FVec Ideal S2x512 .f32) (w1 : FVec Ideal S2x512x2048 .f32) (w2 : FVec Ideal S2x2048x512 .f32)
    (gf : FVec Ideal S512 .f32) (w : FVec Ideal S512x13 .f32)
    (hg : ∀ (l : Fin 2) j, IsReal (g1 (ix2 l j))) (hw : ∀ (l : Fin 2) i (j : Fin 1536), (j : ℕ) < 1024 → IsReal (wq (ix3 l i j)))
    (b : Fin 4) (H : ℕ → Fin 512 → EReal) (hH : ∀ (r : Fin 1023) j, h (ix3 b r j) = H r j) (r : Fin 1023) (j : Fin 13) :
    normR (barR (lnR (layerR trilR (layerR trilR h (sc0 g1) (wq0 wq) (wo0 wo) (sc0 g2) (wi0 w1) (wf0 w2))
      (sc1 g1) (wq1 wq) (wo1 wo) (sc1 g2) (wi1 w1) (wf1 w2)) gf) w) (ix3 b r j)
      = vnRow (wLayer 0 wq wo g1 g2 w1 w2) (wLayer 1 wq wo g1 g2 w1 w2) (fun k => gf (ix1 k)) (fun i j => w (ix2 i j)) H r j := by
  have h1 := layerR_row h (sc0 g1) (wq0 wq) (wo0 wo) (sc0 g2) (wi0 w1) (wf0 w2)
    (fun j => by rw [sc0_apply]; exact hg 0 j) (fun i j hj => by rw [wq0_apply]; exact hw 0 i j hj) b H hH
  rw [layR0] at h1
  have h2 := layerR_row _ (sc1 g1) (wq1 wq) (wo1 wo) (sc1 g2) (wi1 w1) (wf1 w2)
    (fun j => by rw [sc1_apply]; exact hg 1 j) (fun i j hj => by rw [wq1_apply]; exact hw 1 i j hj) b _ h1
  rw [layR1] at h2
  simp only [normR_apply, barR_apply, lnR_apply, h2]
  rfl

/-- The predicted rows of the reference's run. -/
theorem v270_row (V : Valuation τ sig (Elt Ideal))
    (hg : ∀ (l : Fin 2) j, IsReal ((E V main_arg6 : FVec Ideal S2x512 .f32) (ix2 l j)))
    (hw : ∀ (l : Fin 2) i (j : Fin 1536), (j : ℕ) < 1024 → IsReal ((E V main_arg4 : FVec Ideal S2x512x1536 .f32) (ix3 l i j)))
    (b : Fin 4) (H : ℕ → Fin 512 → EReal)
    (hH : ∀ (r : Fin 1023) j, (E V main_v32 : FVec Ideal S4x1023x512 .f32) (ix3 b r j) = H r j) (r : Fin 1023) (j : Fin 13) :
    (E V main_v270 : FVec Ideal S4x1023x13 .f32) (ix3 b r j)
      = vnRow (wLayer 0 (E V main_arg4) (E V main_arg5) (E V main_arg6) (E V main_arg7) (E V main_arg8) (E V main_arg9))
        (wLayer 1 (E V main_arg4) (E V main_arg5) (E V main_arg6) (E V main_arg7) (E V main_arg8) (E V main_arg9))
        (fun k => (E V main_arg10 : FVec Ideal S512 .f32) (ix1 k)) (fun i j => (E V main_arg11 : FVec Ideal S512x13 .f32) (ix2 i j))
        H r j := by
  rw [tie270, tie262, tie240, tie137, tie34]
  exact priorR_row _ _ _ _ _ _ _ _ _ hg hw b H hH r j

end Cert.ReferenceIdeal.Hand
end
-- ==== Proof.Ties.lean ====
/- The host computations the kernel and the reference share: equal results from equal arguments. -/
module

public import proofs.«01_k».proof.Proof.RefRun
public import proofs.«01_k».proof.Proof.KRun

@[expose] public section

set_option maxRecDepth 16384

noncomputable section

namespace Cert.KernelIdeal.Hand

open Idealize.ShloMosaic Idealize.ShloMosaic.TcCoe Idealize.SL.Sem
open Cert.KernelIdeal.Gen

/-- The host operations before the first region, as one list. -/
def kseq : List (HloOp τ sig (Elt Ideal)) :=
  hostOps0 ++ (hostOps0_1 ++ (hostOps0_2 ++ (hostOps0_3 ++ (hostOps0_4 ++ (hostOps0_5 ++ (hostOps0_6 ++ (hostOps0_7 ++
  (hostOps0_8 ++ (hostOps0_9 ++ (hostOps0_10 ++ (hostOps0_11 ++ (hostOps0_12 ++ (hostOps0_13 ++ (hostOps0_14 ++
  (hostOps0_15 ++ (hostOps0_16 ++ (hostOps0_17 ++ (hostOps0_18 ++ (hostOps0_19 ++ hostOps0_20)))))))))))))))))))

variable (m : (ℓ : Loc nD τ sig) → Buf (Elt Ideal) ℓ) (ρ : Dev nD → PrngReg)

/-- What the buffers hold when the first region is entered: the whole list run from the launch memory. -/
theorem W21_eq (c : Dev nD) : W21 m ρ c = StableHlo.after kseq (W0 m ρ c) := by
  simp only [kseq, StableHlo.after_append]

end Cert.KernelIdeal.Hand

namespace Cert.Ties

open Idealize.ShloMosaic Idealize.ShloMosaic.TcCoe Idealize.SL.Sem
open Cert.KernelIdeal.Hand (kseq)
open Cert.ReferenceIdeal.Hand (refSeq)

/-- The kernel's buffer contents. -/
abbrev KV := Valuation Cert.KernelIdeal.τ Cert.KernelIdeal.sig (Elt Ideal)
/-- The reference's buffer contents. -/
abbrev RV := Valuation Cert.ReferenceIdeal.τ Cert.ReferenceIdeal.sig (Elt Ideal)

/-- Two memories that hold the same twelve arguments, as far as the shared host computations read them. -/
structure Same (V : KV) (V' : RV) : Prop where
  x : (V' (Proc.devRef .tc Cert.ReferenceIdeal.main_arg0) : FVec Ideal Cert.KernelIdeal.S4x1024x13 .f32)
    = V (Proc.devRef .tc Cert.KernelIdeal.main_arg0)
  codebook : (V' (Proc.devRef .tc Cert.ReferenceIdeal.main_arg1) : FVec Ideal Cert.KernelIdeal.S8192x13 .f32)
    = V (Proc.devRef .tc Cert.KernelIdeal.main_arg1)
  win : (V' (Proc.devRef .tc Cert.ReferenceIdeal.main_arg2) : FVec Ideal Cert.KernelIdeal.S13x512 .f32)
    = V (Proc.devRef .tc Cert.KernelIdeal.main_arg2)

/-- The normalised codebook. -/
theorem v15 (V : KV) (V' : RV) (h : Same V V') :
    (StableHlo.after refSeq.1 V' (Proc.devRef .tc Cert.ReferenceIdeal.main_v15) : FVec Ideal Cert.KernelIdeal.S8192x13 .f32)
      = StableHlo.after kseq V (Proc.devRef .tc Cert.KernelIdeal.main_v15) := by
  obtain ⟨h0, h1, h2⟩ := h
  after_reads_simp
  simp only [h1]

/-- The index of the nearest code word. -/
theorem v17 (V : KV) (V' : RV) (h : Same V V') :
    (StableHlo.after refSeq.1 V' (Proc.devRef .tc Cert.ReferenceIdeal.main_v17) : IVec Cert.KernelIdeal.S4x1024 32)
      = StableHlo.after kseq V (Proc.devRef .tc Cert.KernelIdeal.main_v17) := by
  obtain ⟨h0, h1, h2⟩ := h
  after_reads_simp
  simp only [h0, h1]
  rfl

/-- The chosen code words. -/
theorem v18 (V : KV) (V' : RV) (h : Same V V') :
    (StableHlo.after refSeq.1 V' (Proc.devRef .tc Cert.ReferenceIdeal.main_v18) : FVec Ideal Cert.KernelIdeal.S4x1024x13 .f32)
      = StableHlo.after kseq V (Proc.devRef .tc Cert.KernelIdeal.main_v18) := by
  obtain ⟨h0, h1, h2⟩ := h
  after_reads_simp
  simp only [h0, h1]
  rfl

/-- The quantised rows. -/
theorem v25 (V : KV) (V' : RV) (h : Same V V') :
    (StableHlo.after refSeq.1 V' (Proc.devRef .tc Cert.ReferenceIdeal.main_v25) : FVec Ideal Cert.KernelIdeal.S4x1024x13 .f32)
      = StableHlo.after kseq V (Proc.devRef .tc Cert.KernelIdeal.main_v25) := by
  obtain ⟨h0, h1, h2⟩ := h
  after_reads_simp
  simp only [h0, h1]
  rfl

/-- The commitment loss. -/
theorem v22 (V : KV) (V' : RV) (h : Same V V') :
    (StableHlo.after refSeq.1 V' (Proc.devRef .tc Cert.ReferenceIdeal.main_v22) : FVec Ideal Cert.KernelIdeal.S_ .f32)
      = StableHlo.after kseq V (Proc.devRef .tc Cert.KernelIdeal.main_v22) := by
  obtain ⟨h0, h1, h2⟩ := h
  after_reads_simp
  simp only [h0, h1]
  rfl

/-- The weighted commitment loss. -/
theorem v23 (V : KV) (V' : RV) (h : Same V V') :
    (StableHlo.after refSeq.1 V' (Proc.devRef .tc Cert.ReferenceIdeal.main_v23) : FVec Ideal Cert.KernelIdeal.S_ .f32)
      = StableHlo.after kseq V (Proc.devRef .tc Cert.KernelIdeal.main_v23) := by
  obtain ⟨h0, h1, h2⟩ := h
  after_reads_simp
  simp only [h0, h1]
  rfl

/-- The input of the prior. -/
theorem v28 (V : KV) (V' : RV) (h : Same V V') :
    (StableHlo.after refSeq.1 V' (Proc.devRef .tc Cert.ReferenceIdeal.main_v28) : FVec Ideal Cert.KernelIdeal.S4x1023x512 .f32)
      = StableHlo.after kseq V (Proc.devRef .tc Cert.KernelIdeal.main_v28) := by
  obtain ⟨h0, h1, h2⟩ := h
  after_reads_simp
  simp only [h0, h1, h2]
  rfl

/-- The share of code words in use. -/
theorem usage (V : KV) (V' : RV) (h : Same V V') :
    (StableHlo.after refSeq.1 V' (Proc.devRef .tc Cert.ReferenceIdeal.main_v321) : FVec Ideal Cert.KernelIdeal.S_ .f32)
      = StableHlo.after kseq V (Proc.devRef .tc Cert.KernelIdeal.main_v70) := by
  obtain ⟨h0, h1, h2⟩ := h
  after_reads_simp
  simp only [h0, h1]
  rfl

end Cert.Ties
end
-- ==== Proof.Link.lean ====
/- The kernel's prior loss is the reference's. -/
module

public import proofs.«01_k».proof.Proof.KFinal
public import proofs.«01_k».proof.Proof.RFinal
public import proofs.«01_k».proof.Proof.RRows
public import proofs.«01_k».proof.Proof.Ties

@[expose] public section

set_option maxRecDepth 16384

noncomputable section

namespace Cert.ReferenceIdeal.Hand

open Idealize.ShloMosaic Idealize.ShloMosaic.TcCoe
open Cert.ReferenceIdeal Cert.ReferenceIdeal.Gen
open Facts

/-- The rows the layers start from, at an index. -/
theorem start_apply (x : FVec Ideal S4x1023x512 .f32) (p : FVec Ideal S1024x512 .f32) (b : Fin 4) (r : Fin 1023) (j : Fin 512) :
    (addf x (broadcastInDim S4x1023x512 ![0, 1, 2] bcast_S1x1023x512_S4x1023x512_0_1_2
      (broadcastInDim S1x1023x512 ![1, 2] bcast_S1023x512_S1x1023x512_1_2
        (extractStridedSlice S1023x512 ![0, 0] p slices_S1024x512_S1023x512_0_0 : FVec Ideal S1023x512 .f32)
        : FVec Ideal S1x1023x512 .f32)
      : FVec Ideal S4x1023x512 .f32) : FVec Ideal S4x1023x512 .f32) (ix3 b r j)
      = x (ix3 b r j) + p (ix2 ⟨r, by omega⟩ j) := by
  pointwise

end Cert.ReferenceIdeal.Hand

namespace Cert.Link

open Idealize.ShloMosaic Idealize.ShloMosaic.TcCoe
open Cert.Spec Cert.Ties
open Cert.KernelIdeal (nD τ sig S4x1023x512 S1024x512 S2x512x1536 S2x512x512 S2x512 S2x512x2048 S2x2048x512 S512 S512x13 S4x1024x13 S8192x13 S_)
open Cert.KernelIdeal.Gen (W0 W21 W22 W25 W21_args)
open Cert.KernelIdeal.Hand (kseq W21_eq vnK vnK_apply nextK at71 at82 startRow cbK rowLoss)
open Cert.ReferenceIdeal.Hand (refSeq E vE cbE idxE v270_row v18_apply v279_apply tie32 start_apply)

/-- A row of the prior from equal weights. -/
theorem vnRow_congr (wq wq' : FVec Ideal S2x512x1536 .f32) (wo wo' : FVec Ideal S2x512x512 .f32) (g1 g1' g2 g2' : FVec Ideal S2x512 .f32)
    (w1 w1' : FVec Ideal S2x512x2048 .f32) (w2 w2' : FVec Ideal S2x2048x512 .f32) (gf gf' : FVec Ideal S512 .f32)
    (w w' : FVec Ideal S512x13 .f32) (h4 : wq = wq') (h5 : wo = wo') (h6 : g1 = g1') (h7 : g2 = g2') (h8 : w1 = w1') (h9 : w2 = w2')
    (h10 : gf = gf') (h11 : w = w') (H : ℕ → Fin 512 → EReal) (r : ℕ) (d : Fin 13) :
    vnRow (wLayer 0 wq wo g1 g2 w1 w2) (wLayer 1 wq wo g1 g2 w1 w2) (fun k => gf (ix1 k)) (fun i j => w (ix2 i j)) H r d
      = vnRow (wLayer 0 wq' wo' g1' g2' w1' w2') (wLayer 1 wq' wo' g1' g2' w1' w2') (fun k => gf' (ix1 k)) (fun i j => w' (ix2 i j)) H r d := by
  subst h4 h5 h6 h7 h8 h9 h10 h11
  rfl

variable (m : (ℓ : Loc nD τ sig) → Buf (Elt Ideal) ℓ) (ρ : Dev nD → PrngReg) (c : Dev nD) (V' : RV)

/-- The reference's memory holds the kernel's twelve arguments. -/
structure Args : Prop where
  same : Same (W0 m ρ c) V'
  a3 : (E V' Cert.ReferenceIdeal.main_arg3 : FVec Ideal S1024x512 .f32) = W21 m ρ c (Proc.devRef .tc Cert.KernelIdeal.main_arg3)
  a4 : (E V' Cert.ReferenceIdeal.main_arg4 : FVec Ideal S2x512x1536 .f32) = W21 m ρ c (Proc.devRef .tc Cert.KernelIdeal.main_arg4)
  a5 : (E V' Cert.ReferenceIdeal.main_arg5 : FVec Ideal S2x512x512 .f32) = W21 m ρ c (Proc.devRef .tc Cert.KernelIdeal.main_arg5)
  a6 : (E V' Cert.ReferenceIdeal.main_arg6 : FVec Ideal S2x512 .f32) = W21 m ρ c (Proc.devRef .tc Cert.KernelIdeal.main_arg6)
  a7 : (E V' Cert.ReferenceIdeal.main_arg7 : FVec Ideal S2x512 .f32) = W21 m ρ c (Proc.devRef .tc Cert.KernelIdeal.main_arg7)
  a8 : (E V' Cert.ReferenceIdeal.main_arg8 : FVec Ideal S2x512x2048 .f32) = W21 m ρ c (Proc.devRef .tc Cert.KernelIdeal.main_arg8)
  a9 : (E V' Cert.ReferenceIdeal.main_arg9 : FVec Ideal S2x2048x512 .f32) = W21 m ρ c (Proc.devRef .tc Cert.KernelIdeal.main_arg9)
  a10 : (E V' Cert.ReferenceIdeal.main_arg10 : FVec Ideal S512 .f32) = W21 m ρ c (Proc.devRef .tc Cert.KernelIdeal.main_arg10)
  a11 : (E V' Cert.ReferenceIdeal.main_arg11 : FVec Ideal S512x13 .f32) = W21 m ρ c (Proc.devRef .tc Cert.KernelIdeal.main_arg11)

variable {m ρ c V'}

/-- The rows the reference's layers start from are those the kernel's do. -/
theorem start_row (A : Args m ρ c V') (b : Fin 4) (r : Fin 1023) (j : Fin 512) :
    (E V' Cert.ReferenceIdeal.main_v32 : FVec Ideal S4x1023x512 .f32) (ix3 b r j)
      = startRow (W21 m ρ c (Proc.devRef .tc Cert.KernelIdeal.main_v71)) (W21 m ρ c (Proc.devRef .tc Cert.KernelIdeal.main_arg3)) b r j := by
  have h28 : (E V' Cert.ReferenceIdeal.main_v28 : FVec Ideal S4x1023x512 .f32) = W21 m ρ c (Proc.devRef .tc Cert.KernelIdeal.main_v28) :=
    (Cert.Ties.v28 _ _ A.same).trans (congrFun (W21_eq m ρ c) _).symm
  refine (congrFun (tie32 V') _).trans ((start_apply _ _ b r j).trans ?_)
  unfold startRow
  rw [dif_pos (show (r : ℕ) < 1024 by omega)]
  exact congrArg₂ (fun x y : EReal => x + y) ((congrFun h28 _).trans (at71 m ρ c b r j).symm) (congrFun A.a3 _)

/-- The prior's rows agree. -/
theorem rows (A : Args m ρ c V')
    (hg : ∀ (l : Fin 2) j, IsReal ((W21 m ρ c (Proc.devRef .tc Cert.KernelIdeal.main_arg6) : FVec Ideal S2x512 .f32) (ix2 l j)))
    (hw : ∀ (l : Fin 2) i (j : Fin 1536), (j : ℕ) < 1024 → IsReal ((W21 m ρ c (Proc.devRef .tc Cert.KernelIdeal.main_arg4) : FVec Ideal S2x512x1536 .f32) (ix3 l i j)))
    (b : Fin 4) (r : Fin 1023) (d : Fin 13) : vE V' b r d = vnK m ρ c b r d := by
  rw [vnK_apply m ρ c hg hw]
  refine (v270_row V' (fun l j => ?_) (fun l i j hj => ?_) b _ (start_row A b) r d).trans
    (vnRow_congr _ _ _ _ _ _ _ _ _ _ _ _ _ _ _ _ A.a4 A.a5 A.a6 A.a7 A.a8 A.a9 A.a10 A.a11 _ _ _)
  · exact (congrFun A.a6 (ix2 l j)).symm ▸ hg l j
  · exact (congrFun A.a4 (ix3 l i j)).symm ▸ hw l i j hj

/-- A row of the reference's prior is real. -/
theorem row_real (A : Args m ρ c V')
    (hg : ∀ (l : Fin 2) j, IsReal ((W21 m ρ c (Proc.devRef .tc Cert.KernelIdeal.main_arg6) : FVec Ideal S2x512 .f32) (ix2 l j)))
    (hw : ∀ (l : Fin 2) i (j : Fin 1536), (j : ℕ) < 1024 → IsReal ((W21 m ρ c (Proc.devRef .tc Cert.KernelIdeal.main_arg4) : FVec Ideal S2x512x1536 .f32) (ix3 l i j)))
    (b : Fin 4) (r : Fin 1023) (d : Fin 13) : IsReal (vE V' b r d) := by
  rw [rows A hg hw, vnK_apply m ρ c hg hw]
  exact vnRow_real _ _ _ _ _ _ _

/-- The codebook's rows agree. -/
theorem codes (A : Args m ρ c V') : cbK (W21 m ρ c (Proc.devRef .tc Cert.KernelIdeal.main_v15)) = cbE V' := by
  funext k d
  exact congrFun ((congrFun (W21_eq m ρ c) _).trans (Cert.Ties.v15 _ _ A.same).symm) (ix2 k d)

/-- The code the next row looks up is the codebook's row at the nearest code's index. -/
theorem next (A : Args m ρ c V') (b : Fin 4) (r : Fin 1023) : nextK m ρ c b r = cbE V' (idxE V' b ⟨1 + r, by omega⟩) := by
  funext d
  rw [← v18_apply]
  exact congrFun ((congrFun (W21_eq m ρ c) _).trans (Cert.Ties.v18 _ _ A.same).symm) (ix3 b ⟨1 + r, by omega⟩ d)

/-- A row's loss is its negative log-probability of the next code. -/
theorem rowLoss_eq (w : FVec Ideal S8192x13 .f32) (v q : Fin 13 → EReal) (k : Fin 8192) (cb : Fin 8192 → Fin 13 → EReal)
    (hc : cbK w = cb) (hq : q = cb k) : rowLoss w v q = nll (logits cb v) k := by
  subst hc hq
  rfl

/-- The prior losses agree. -/
theorem loss (A : Args m ρ c V')
    (hg : ∀ (l : Fin 2) j, IsReal ((W21 m ρ c (Proc.devRef .tc Cert.KernelIdeal.main_arg6) : FVec Ideal S2x512 .f32) (ix2 l j)))
    (hw : ∀ (l : Fin 2) i (j : Fin 1536), (j : ℕ) < 1024 → IsReal ((W21 m ρ c (Proc.devRef .tc Cert.KernelIdeal.main_arg4) : FVec Ideal S2x512x1536 .f32) (ix3 l i j))) :
    (E V' Cert.ReferenceIdeal.main_v279 : FVec Ideal S_ .f32) = W25 m ρ c (Proc.devRef .tc Cert.KernelIdeal.main_v82) := by
  funext i
  refine (v279_apply V' (row_real A hg hw) i).trans (Eq.trans ?_ (at82 m ρ c i).symm)
  refine congrArg (fun s => Ideal.ofBits .f32 0x3F800000#32 * Ideal.div s (Ideal.ofBits .f32 0x457FC000#32)) ?_
  refine Finset.sum_congr rfl fun b _ => Finset.sum_congr rfl fun r _ => ?_
  rw [rowLoss_eq _ _ _ _ _ (codes A) (next A b r), funext (rows A hg hw b r)]

end Cert.Link
end
-- ==== Proof.Finite.lean ====
/- What the precondition gives: the query and key weights and the attention's scales are real numbers. -/
module

public import proofs.«01_k».proof.Pre_finite_scores
public import proofs.«01_k».proof.Proof.Spec
public import Idealize.ShloMosaic.Lib.ReduceAll
public import Idealize.ShloMosaic.Lib.Pointwise

@[expose] public section

set_option maxRecDepth 16384

noncomputable section

namespace Cert.Pre_finite_scores

open Idealize.ShloMosaic
open Cert.Spec

/-- The shape relations the precondition's operations take hold. -/
theorem facts : Facts where
  slices_S2x512x1536_S2x512x1024_0_0_0 := by decide
  bcast_S_S2x512x1024 := by decide
  reducesTo_S2x512x1024_S_d0_1_2 := by decide
  h_S_ := by decide
  bcast_S_S2x512 := by decide
  reducesTo_S2x512_S_d0_1 := by decide

/-- A number whose absolute value compares below plus infinity is real. -/
theorem real_of_lt (x : EReal) (h : Ideal.cmp .olt (max x (-x)) (Ideal.ofBits .f32 0x7F800000#32) = 1#1) : IsReal x := by
  rw [cInf] at h
  have hl : max x (-x) < ⊤ := by
    by_contra hn
    simp [Ideal.cmp, hn] at h
  rw [isReal_iff]
  constructor
  · rintro rfl; simp at hl
  · rintro rfl; simp at hl

variable [Facts]
open Facts

/-- There is one index of a scalar. -/
instance : Subsingleton S_.Idx := ⟨fun _ _ => funext fun a => a.elim0⟩

/-- The query and key columns of the projection weights, at an index. -/
theorem slice_apply (a : FVec Ideal S2x512x1536 .f32) (l : Fin 2) (i : Fin 512) (j : Fin 1536) (hj : (j : ℕ) < 1024) :
    (extractStridedSlice S2x512x1024 ![0, 0, 0] a slices_S2x512x1536_S2x512x1024_0_0_0 : FVec Ideal S2x512x1024 .f32) (ix3 l i ⟨j, hj⟩)
      = a (ix3 l i j) := by
  pointwise

/-- Where the precondition holds, every query or key weight and every scale of the attention's layernorm is real. -/
theorem real (a0 : FVec Ideal S4x1024x13 .f32) (a1 : FVec Ideal S8192x13 .f32) (a2 : FVec Ideal S13x512 .f32)
    (a3 : FVec Ideal S1024x512 .f32) (a4 : FVec Ideal S2x512x1536 .f32) (a5 : FVec Ideal S2x512x512 .f32) (a6 : FVec Ideal S2x512 .f32)
    (a7 : FVec Ideal S2x512 .f32) (a8 : FVec Ideal S2x512x2048 .f32) (a9 : FVec Ideal S2x2048x512 .f32) (a10 : FVec Ideal S512 .f32)
    (a11 : FVec Ideal S512x13 .f32) (h : fn (F := Ideal) a0 a1 a2 a3 a4 a5 a6 a7 a8 a9 a10 a11 = fun _ => 1#1) :
    (∀ (l : Fin 2) (i : Fin 512) (j : Fin 1536), (j : ℕ) < 1024 → IsReal (a4 (ix3 l i j))) ∧ ∀ i, IsReal (a6 i) := by
  have hj := congrFun h (fun a => a.elim0)
  unfold fn at hj
  obtain ⟨h4, h6⟩ := IntOp.andi_eq_one.1 hj
  exact ⟨fun l i j hj => by
    rw [← slice_apply a4 l i j hj]
    exact real_of_lt _ (Host.reduce_andi_all _ _ _ _ _ h4 (ix3 l i ⟨j, hj⟩)), fun i => real_of_lt _ (Host.reduce_andi_all _ _ _ _ _ h6 i)⟩

end Cert.Pre_finite_scores
end
-- ==== Proof.Final.lean ====
/- The certificate's value claim, and the frames under its precondition. -/
module

public import proofs.«01_k».proof.Proof.Frames
public import proofs.«01_k».proof.Proof.Link
public import proofs.«01_k».proof.Proof.Finite

@[expose] public section

set_option maxRecDepth 16384

noncomputable section

namespace Cert.Proof

open Idealize.ShloMosaic Idealize.ShloMosaic.TcCoe Idealize.SL.Sem
open Cert.Spec Cert.Link
open Cert.KernelIdeal.Gen (W0 W21 W25 W21_args mem_uc)
open Cert.KernelIdeal.Hand (W21_eq kept)
open Cert.ReferenceIdeal.Hand (E args_kept)

/-- The idealized kernel's frame, where the precondition holds. -/
theorem frame_kernel_ideal_pre : Cert.quiescent_KernelIdeal_pre_finite_scores (hPre_finite_scores := Cert.Pre_finite_scores.facts) :=
  fun m g _ => Cert.KernelIdeal.Gen.frame m g

/-- The reference's frame, where the precondition holds. -/
theorem frame_reference_pre : Cert.quiescent_ReferenceIdeal_pre_finite_scores (hPre_finite_scores := Cert.Pre_finite_scores.facts) :=
  fun m g _ => frame_reference m g trivial

/-- The reference ends with the arguments it was given. -/
theorem args_end (m' : (ℓ : Loc Cert.ReferenceIdeal.nD Cert.ReferenceIdeal.τ Cert.ReferenceIdeal.sig) → Buf (Elt Ideal) ℓ)
    (c : Dev Cert.ReferenceIdeal.nD) (r : Ref Cert.ReferenceIdeal.sig .tc)
    (h : r ∈ [Cert.ReferenceIdeal.main_arg0, Cert.ReferenceIdeal.main_arg1, Cert.ReferenceIdeal.main_arg2, Cert.ReferenceIdeal.main_arg3,
      Cert.ReferenceIdeal.main_arg4, Cert.ReferenceIdeal.main_arg5, Cert.ReferenceIdeal.main_arg6, Cert.ReferenceIdeal.main_arg7,
      Cert.ReferenceIdeal.main_arg8, Cert.ReferenceIdeal.main_arg9, Cert.ReferenceIdeal.main_arg10, Cert.ReferenceIdeal.main_arg11]) :
    E (StableHlo.launchContents m' c) r = m' ((c.tc : Thread Cert.ReferenceIdeal.nD Cert.ReferenceIdeal.τ).loc r) :=
  args_kept (StableHlo.launchContents m' c) r h

/-- On the extended reals, where the query and key weights and the attention's scales are finite, the kernel and the reference end with
    the same six results. -/
theorem algebraic : Cert.algebraic_KernelIdeal_ReferenceIdeal_pre_finite_scores (hPre_finite_scores := Cert.Pre_finite_scores.facts) := by
  intro m g m' g' hp hm
  have A : ∀ c, Args m g c (StableHlo.launchContents m' c) := fun c =>
    have a := hm c
    { same := ⟨a.1, a.2.1, a.2.2.1⟩
      a3 := (args_end m' c _ (by decide)).trans (a.2.2.2.1.trans (W21_args m g c _ (by decide)).symm)
      a4 := (args_end m' c _ (by decide)).trans (a.2.2.2.2.1.trans (W21_args m g c _ (by decide)).symm)
      a5 := (args_end m' c _ (by decide)).trans (a.2.2.2.2.2.1.trans (W21_args m g c _ (by decide)).symm)
      a6 := (args_end m' c _ (by decide)).trans (a.2.2.2.2.2.2.1.trans (W21_args m g c _ (by decide)).symm)
      a7 := (args_end m' c _ (by decide)).trans (a.2.2.2.2.2.2.2.1.trans (W21_args m g c _ (by decide)).symm)
      a8 := (args_end m' c _ (by decide)).trans (a.2.2.2.2.2.2.2.2.1.trans (W21_args m g c _ (by decide)).symm)
      a9 := (args_end m' c _ (by decide)).trans (a.2.2.2.2.2.2.2.2.2.1.trans (W21_args m g c _ (by decide)).symm)
      a10 := (args_end m' c _ (by decide)).trans (a.2.2.2.2.2.2.2.2.2.2.1.trans (W21_args m g c _ (by decide)).symm)
      a11 := (args_end m' c _ (by decide)).trans (a.2.2.2.2.2.2.2.2.2.2.2.trans (W21_args m g c _ (by decide)).symm) }
  have hr := fun c => letI := Cert.Pre_finite_scores.facts; Cert.Pre_finite_scores.real _ _ _ _ _ _ _ _ _ _ _ _ (hp c)
  have hg : ∀ c (l : Fin 2) j, IsReal ((W21 m g c (Proc.devRef .tc Cert.KernelIdeal.main_arg6) : FVec Ideal Cert.KernelIdeal.S2x512 .f32) (ix2 l j)) :=
    fun c l j => (congrFun (W21_args m g c Cert.KernelIdeal.main_arg6 (by decide)) (ix2 l j)).symm ▸ (hr c).2 (ix2 l j)
  have hw : ∀ c (l : Fin 2) i (j : Fin 1536), (j : ℕ) < 1024 → IsReal ((W21 m g c (Proc.devRef .tc Cert.KernelIdeal.main_arg4) : FVec Ideal Cert.KernelIdeal.S2x512x1536 .f32) (ix3 l i j)) :=
    fun c l i j hj => (congrFun (W21_args m g c Cert.KernelIdeal.main_arg4 (by decide)) (ix3 l i j)).symm ▸ (hr c).1 l i j hj
  refine ⟨fun c => W25 m g c (Proc.devRef .tc Cert.KernelIdeal.main_v25), fun c => W25 m g c (Proc.devRef .tc Cert.KernelIdeal.main_v17),
    fun c => W25 m g c (Proc.devRef .tc Cert.KernelIdeal.main_v23), fun c => W25 m g c (Proc.devRef .tc Cert.KernelIdeal.main_v82),
    fun c => W25 m g c (Proc.devRef .tc Cert.KernelIdeal.main_v22), fun c => W25 m g c (Proc.devRef .tc Cert.KernelIdeal.main_v70), ?_, ?_⟩
  · refine θ_run_mono (Cert.KernelIdeal.Hand.run m g) fun r h c => ?_
    have k : ∀ b, (hb : ¬ (Proc.devRef .tc b : DevRef Cert.KernelIdeal.τ Cert.KernelIdeal.sig).isScoped) → _ := fun b hb => h c _ (mem_uc b hb)
    exact ⟨k _ (by decide), k _ (by decide), k _ (by decide), k _ (by decide), k _ (by decide), k _ (by decide),
      (k _ (by decide)).trans (Cert.KernelIdeal.Gen.W25_main_arg0 m g c), (k _ (by decide)).trans (Cert.KernelIdeal.Gen.W25_main_arg1 m g c),
      (k _ (by decide)).trans (Cert.KernelIdeal.Gen.W25_main_arg2 m g c), (k _ (by decide)).trans (Cert.KernelIdeal.Gen.W25_main_arg3 m g c),
      (k _ (by decide)).trans (Cert.KernelIdeal.Gen.W25_main_arg4 m g c), (k _ (by decide)).trans (Cert.KernelIdeal.Gen.W25_main_arg5 m g c),
      (k _ (by decide)).trans (Cert.KernelIdeal.Gen.W25_main_arg6 m g c), (k _ (by decide)).trans (Cert.KernelIdeal.Gen.W25_main_arg7 m g c),
      (k _ (by decide)).trans (Cert.KernelIdeal.Gen.W25_main_arg8 m g c), (k _ (by decide)).trans (Cert.KernelIdeal.Gen.W25_main_arg9 m g c),
      (k _ (by decide)).trans (Cert.KernelIdeal.Gen.W25_main_arg10 m g c), (k _ (by decide)).trans (Cert.KernelIdeal.Gen.W25_main_arg11 m g c)⟩
  · refine θ_run_mono (Cert.ReferenceIdeal.Hand.run m' g') fun r h c => ?_
    have a := fun b hb => (h c b).trans (args_end m' c b hb)
    have s := fun b e0 e1 e2 e3 => ((congrFun (W21_eq m g c) _).symm.trans (kept m g c b e0 e1 e2 e3).symm)
    exact ⟨(h c _).trans ((Cert.Ties.v25 _ _ (A c).same).trans (s _ (by decide) (by decide) (by decide) (by decide))),
      (h c _).trans ((Cert.Ties.v17 _ _ (A c).same).trans (s _ (by decide) (by decide) (by decide) (by decide))),
      (h c _).trans ((Cert.Ties.v23 _ _ (A c).same).trans (s _ (by decide) (by decide) (by decide) (by decide))),
      (h c _).trans (loss (A c) (hg c) (hw c)),
      (h c _).trans ((Cert.Ties.v22 _ _ (A c).same).trans (s _ (by decide) (by decide) (by decide) (by decide))),
      (h c _).trans ((Cert.Ties.usage _ _ (A c).same).trans (s _ (by decide) (by decide) (by decide) (by decide))),
      a _ (by decide), a _ (by decide), a _ (by decide), a _ (by decide), a _ (by decide), a _ (by decide),
      a _ (by decide), a _ (by decide), a _ (by decide), a _ (by decide), a _ (by decide), a _ (by decide)⟩

end Cert.Proof
end
-- ==== Proof.lean ====
/- The certificate: the frames of the three programs, the meaning of the named constant and the value claim. -/
module

public import proofs.«01_k».proof.Defs
public import proofs.«01_k».proof.Proof.Final

@[expose] public section

noncomputable section

namespace Cert.Proof

/-- Every claim of the certificate holds. -/
theorem claim : Cert.Claim := ⟨Cert.Kernel.Gen.facts, Cert.KernelIdeal.Gen.facts, Cert.ReferenceIdeal.Gen.facts,
  Cert.Pre_finite_scores.facts, frame_kernel, frame_kernel_ideal, frame_kernel_ideal_pre, frame_reference, frame_reference_pre,
  preserves, algebraic⟩

end Cert.Proof

end
